-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64_0) = v0 c
          ∧ r.2.mem ((c.tc : Thread Cert.ReferenceIdeal.nD Cert.ReferenceIdeal.τ).loc Cert.ReferenceIdeal.main_v64_1) = v1 c
          ∧ r.2.mem ((c.tc : Thread Cert.ReferenceIdeal.nD Cert.ReferenceIdeal.τ).loc Cert.ReferenceIdeal.main_v91_0) = v2 c
          ∧ r.2.mem ((c.tc : Thread Cert.ReferenceIdeal.nD Cert.ReferenceIdeal.τ).loc Cert.ReferenceIdeal.main_v91_1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5x2048x512 : Shape := ⟨3, ![5, 2048, 512]⟩
abbrev S5x2048 : Shape := ⟨2, ![5, 2048]⟩
abbrev S_ : Shape := ⟨0, ![]⟩

class Facts : Prop where
  bitsLt_bf16_f32 : FTy.bits .bf16 < FTy.bits .f32
  bcast_S_S5x2048x512 : S_.BroadcastsInDim S5x2048x512 (![] : Fin 0 → Fin S5x2048x512.rank)
  reducesTo_S5x2048x512_S_d0_1_2 : S5x2048x512.ReducesTo [0, 1, 2] S_
  h_S_ : 0 < S_.numel

variable [Facts]

def fn {F : FTy → Type} [FloatOps F] (main_arg0 : FVec F S5x2048x512 .bf16) (main_arg1 : FVec F S5x2048x512 .bf16) (main_arg2 : IVec S5x2048 32) : IVec S_ 1 :=
  let main_v0 : FVec F S5x2048x512 .f32 := (extf .f32 · bitsLt_bf16_f32) main_arg0
  let main_v1 : FVec F S5x2048x512 .f32 := Host.absf main_v0
  let main_cst : FVec F S_ .f32 := constant S_ .f32 0x7F7F0000#32
  let main_v2 : FVec F S5x2048x512 .f32 := broadcastInDim S5x2048x512 ![] bcast_S_S5x2048x512 main_cst
  let main_v3 : IVec S5x2048x512 1 := cmpf .ole main_v1 main_v2
  let main_c : IVec S_ 1 := constantI S_ 1 1#1
  let main_v4 : IVec S_ 1 := (fun x v => Host.reduce IntOp.andi x v reducesTo_S5x2048x512_S_d0_1_2 h_S_) main_v3 main_c
  let main_v5 : FVec F S5x2048x512 .f32 := (extf .f32 · bitsLt_bf16_f32) main_arg1
  let main_v6 : FVec F S5x2048x512 .f32 := Host.absf main_v5
  let main_cst_0 : FVec F S_ .f32 := constant S_ .f32 0x7F7F0000#32
  let main_v7 : FVec F S5x2048x512 .f32 := broadcastInDim S5x2048x512 ![] bcast_S_S5x2048x512 main_cst_0
  let main_v8 : IVec S5x2048x512 1 := cmpf .ole main_v6 main_v7
  let main_c_1 : IVec S_ 1 := constantI S_ 1 1#1
  let main_v9 : IVec S_ 1 := (fun x v => Host.reduce IntOp.andi x v reducesTo_S5x2048x512_S_d0_1_2 h_S_) main_v8 main_c_1
  let main_v10 : IVec S_ 1 := andi main_v4 main_v9
  main_v10
-- ==== Kernel.lean ====
abbrev S5x2048x512 : Shape := ⟨3, ![5, 2048, 512]⟩
abbrev S5x2048 : Shape := ⟨2, ![5, 2048]⟩
abbrev S5x2048x4x128 : Shape := ⟨4, ![5, 2048, 4, 128]⟩
abbrev S5x8x128 : Shape := ⟨3, ![5, 8, 128]⟩
abbrev S1x2048x512 : Shape := ⟨3, ![1, 2048, 512]⟩
abbrev S1x2048x4x128 : Shape := ⟨4, ![1, 2048, 4, 128]⟩
abbrev S1x8x128 : Shape := ⟨3, ![1, 8, 128]⟩
abbrev S8192x128 : Shape := ⟨2, ![8192, 128]⟩
abbrev S80x8x128 : Shape := ⟨3, ![80, 8, 128]⟩
abbrev S128x128 : Shape := ⟨2, ![128, 128]⟩
abbrev S1x128 : Shape := ⟨2, ![1, 128]⟩
abbrev S8x128 : Shape := ⟨2, ![8, 128]⟩
abbrev S1x128x128 : Shape := ⟨3, ![1, 128, 128]⟩
abbrev S16x8x128 : Shape := ⟨3, ![16, 8, 128]⟩
abbrev S1 : Shape := ⟨1, ![1]⟩
abbrev S1x1x1 : Shape := ⟨3, ![1, 1, 1]⟩
abbrev S1x1 : Shape := ⟨2, ![1, 1]⟩
abbrev S512x128 : Shape := ⟨2, ![512, 128]⟩
abbrev S64x8x128 : Shape := ⟨3, ![64, 8, 128]⟩
abbrev S128x4x128 : Shape := ⟨3, ![128, 4, 128]⟩
abbrev S1x128x4x128 : Shape := ⟨4, ![1, 128, 4, 128]⟩
abbrev S5x4x1 : Shape := ⟨3, ![5, 4, 1]⟩
abbrev S5x4 : Shape := ⟨2, ![5, 4]⟩

abbrev nBuf : Space → Nat
  | .hbm => 11
  | .vmem => 16
  | .smem => 0
  | _ => 0

abbrev bufTy : (tb : Table) → Fin (tcTables nBuf tb) → BufTy
  | .hbm, ⟨0, _⟩ => ⟨S5x2048x512, .bf16⟩
  | .hbm, ⟨1, _⟩ => ⟨S5x2048x512, .bf16⟩
  | .hbm, ⟨2, _⟩ => ⟨S5x2048, .i32⟩
  | .hbm, ⟨3, _⟩ => ⟨S5x2048x4x128, .fp8e4m3⟩
  | .hbm, ⟨4, _⟩ => ⟨S5x8x128, .f32⟩
  | .hbm, ⟨5, _⟩ => ⟨S5x2048x4x128, .fp8e4m3⟩
  | .hbm, ⟨6, _⟩ => ⟨S5x8x128, .f32⟩
  | .hbm, ⟨7, _⟩ => ⟨S5x4x1, .f32⟩
  | .hbm, ⟨8, _⟩ => ⟨S5x4, .f32⟩
  | .hbm, ⟨9, _⟩ => ⟨S5x4x1, .f32⟩
  | .hbm, ⟨10, _⟩ => ⟨S5x4, .f32⟩
  | .local _ .vmem, ⟨0, _⟩ => ⟨S5x2048, .i32⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x4x128, .fp8e4m3⟩
  | .local _ .vmem, ⟨6, _⟩ => ⟨S1x2048x4x128, .fp8e4m3⟩
  | .local _ .vmem, ⟨7, _⟩ => ⟨S1x8x128, .f32⟩
  | .local _ .vmem, ⟨8, _⟩ => ⟨S1x8x128, .f32⟩
  | .local _ .vmem, ⟨9, _⟩ => ⟨S1x2048x4x128, .fp8e4m3⟩
  | .local _ .vmem, ⟨10, _⟩ => ⟨S1x2048x4x128, .fp8e4m3⟩
  | .local _ .vmem, ⟨11, _⟩ => ⟨S1x8x128, .f32⟩
  | .local _ .vmem, ⟨12, _⟩ => ⟨S1x8x128, .f32⟩
  | .local _ .vmem, ⟨13, _⟩ => ⟨S8192x128, .f32⟩
  | .local _ .vmem, ⟨14, _⟩ => ⟨S8192x128, .f32⟩
  | .local _ .vmem, ⟨15, _⟩ => ⟨S80x8x128, .i32⟩
  | _, _ => ⟨S5x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32 : BitVec 32 := 0#32
  let c16_i32 : BitVec 32 := 16#32
  let v493 : BitVec 32 := Scalar.addi c0_i32 c16_i32
  let c1_i32 : BitVec 32 := 1#32
  ⟨c0_i32, v493, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32_404 : BitVec 32 := 128#32
  let v787 : BitVec 32 := Scalar.muli arg11 c128_i32_404
  v787
def k0_off1 (i : grid0.Coords) (k0_t1 : Fin k0_t1_loop.trips) : Fin 3 → Nat :=
  let c0_i32 : BitVec 32 := 0#32
  let c1_i32 : BitVec 32 := 1#32
  let arg11 : BitVec 32 := Scf.iv c0_i32 c1_i32 k0_t1
  let c5_i32 : BitVec 32 := 5#32
  let v789 : BitVec 32 := Scalar.muli arg11 c5_i32
  let arg0 : BitVec 32 := BitVec.ofNat 32 (i 0).val
  let v790 : BitVec 32 := Scalar.addi v789 arg0
  let v791 : Index := Scalar.indexCast v790
  let c0_405 : Index := 0#32
  let c0_406 : Index := 0#32
  ![v791.toNat, 0, 0]
def k0_off2 (k0_t1 : Fin k0_t1_loop.trips) : Fin 3 → Nat :=
  let c0_409 : Index := 0#32
  let c0_i32 : BitVec 32 := 0#32
  let c1_i32 : BitVec 32 := 1#32
  let arg11 : BitVec 32 := Scf.iv c0_i32 c1_i32 k0_t1
  let c128_i32_404 : BitVec 32 := 128#32
  let v787 : BitVec 32 := Scalar.muli arg11 c128_i32_404
  let v788 : BitVec 32 := v787
  let v806 : Index := Scalar.indexCast v788
  let c0_410 : Index := 0#32
  ![0, v806.toNat, 0]
def k0_off3 (k0_t1 : Fin k0_t1_loop.trips) (c0_i32_413 : BitVec 32) : Fin 2 → Nat :=
  let c0_i32 : BitVec 32 := 0#32
  let c1_i32 : BitVec 32 := 1#32
  let arg11 : BitVec 32 := Scf.iv c0_i32 c1_i32 k0_t1
  let c128_i32_404 : BitVec 32 := 128#32
  let v787 : BitVec 32 := Scalar.muli arg11 c128_i32_404
  let v788 : BitVec 32 := v787
  let c4_i32_412 : BitVec 32 := 4#32
  let v814 : BitVec 32 := Scalar.muli v788 c4_i32_412
  let v815 : BitVec 32 := Scalar.addi v814 c0_i32_413
  let v816 : Index := Scalar.indexCast v815
  let c0_414 : Index := 0#32
  ![v816.toNat, 0]
def k0_off4 (k0_t1 : Fin k0_t1_loop.trips) : Fin 3 → Nat :=
  let c0_422 : Index := 0#32
  let c0_i32 : BitVec 32 := 0#32
  let c1_i32 : BitVec 32 := 1#32
  let arg11 : BitVec 32 := Scf.iv c0_i32 c1_i32 k0_t1
  let c128_i32_404 : BitVec 32 := 128#32
  let v787 : BitVec 32 := Scalar.muli arg11 c128_i32_404
  let v788 : BitVec 32 := v787
  let v838 : Index := Scalar.indexCast v788
  let c128_423 : Index := 128#32
  ![0, v838.toNat, 128]
def k0_off5 (k0_t1 : Fin k0_t1_loop.trips) : Fin 3 → Nat :=
  let c0_435 : Index := 0#32
  let c0_i32 : BitVec 32 := 0#32
  let c1_i32 : BitVec 32 := 1#32
  let arg11 : BitVec 32 := Scf.iv c0_i32 c1_i32 k0_t1
  let c128_i32_404 : BitVec 32 := 128#32
  let v787 : BitVec 32 := Scalar.muli arg11 c128_i32_404
  let v788 : BitVec 32 := v787
  let v870 : Index := Scalar.indexCast v788
  let c256_436 : Index := 256#32
  ![0, v870.toNat, 256]
def k0_off6 (k0_t1 : Fin k0_t1_loop.trips) : Fin 3 → Nat :=
  let c0_448 : Index := 0#32
  let c0_i32 : BitVec 32 := 0#32
  let c1_i32 : BitVec 32 := 1#32
  let arg11 : BitVec 32 := Scf.iv c0_i32 c1_i32 k0_t1
  let c128_i32_404 : BitVec 32 := 128#32
  let v787 : BitVec 32 := Scalar.muli arg11 c128_i32_404
  let v788 : BitVec 32 := v787
  let v902 : Index := Scalar.indexCast v788
  let c384_449 : Index := 384#32
  ![0, v902.toNat, 384]
@[reducible] def k0_t2_loop : Scf.Loop 32 :=
  let c0_i32_400 : BitVec 32 := 0#32
  let c16_i32_401 : BitVec 32 := 16#32
  let v786 : BitVec 32 := Scalar.addi c0_i32_400 c16_i32_401
  let c1_i32_402 : BitVec 32 := 1#32
  ⟨c0_i32_400, v786, c1_i32_402⟩
def k0_mult2 (k0_t2 : Fin k0_t2_loop.trips) : BitVec 32 :=
  let c0_i32_400 : BitVec 32 := 0#32
  let c1_i32_402 : BitVec 32 := 1#32
  let arg11 : BitVec 32 := Scf.iv c0_i32_400 c1_i32_402 k0_t2
  let c128_i32_404 : BitVec 32 := 128#32
  let v787 : BitVec 32 := Scalar.muli arg11 c128_i32_404
  let c4_i32_405 : BitVec 32 := 4#32
  let v788 : BitVec 32 := Scalar.muli v787 c4_i32_405
  v788
def k0_off7 (k0_t2 : Fin k0_t2_loop.trips) : Fin 2 → Nat :=
  let c0_i32_400 : BitVec 32 := 0#32
  let c1_i32_402 : BitVec 32 := 1#32
  let arg11 : BitVec 32 := Scf.iv c0_i32_400 c1_i32_402 k0_t2
  let c128_i32_404 : BitVec 32 := 128#32
  let v787 : BitVec 32 := Scalar.muli arg11 c128_i32_404
  let c4_i32_405 : BitVec 32 := 4#32
  let v788 : BitVec 32 := Scalar.muli v787 c4_i32_405
  let v789 : BitVec 32 := v788
  let v790 : Index := Scalar.indexCast v789
  let c0_406 : Index := 0#32
  ![v790.toNat, 0]
def k0_mult3 (k0_t2 : Fin k0_t2_loop.trips) : BitVec 32 :=
  let c0_i32_400 : BitVec 32 := 0#32
  let c1_i32_402 : BitVec 32 := 1#32
  let arg11 : BitVec 32 := Scf.iv c0_i32_400 c1_i32_402 k0_t2
  let c128_i32_409 : BitVec 32 := 128#32
  let v803 : BitVec 32 := Scalar.muli arg11 c128_i32_409
  v803
def k0_off8 (k0_t2 : Fin k0_t2_loop.trips) : Fin 4 → Nat :=
  let c0_410 : Index := 0#32
  let c0_i32_400 : BitVec 32 := 0#32
  let c1_i32_402 : BitVec 32 := 1#32
  let arg11 : BitVec 32 := Scf.iv c0_i32_400 c1_i32_402 k0_t2
  let c128_i32_409 : BitVec 32 := 128#32
  let v803 : BitVec 32 := Scalar.muli arg11 c128_i32_409
  let v804 : BitVec 32 := v803
  let v805 : Index := Scalar.indexCast v804
  let c0_411 : Index := 0#32
  let c0_412 : Index := 0#32
  ![0, v805.toNat, 0, 0]
def k0_mult4 (k0_t2 : Fin k0_t2_loop.trips) : BitVec 32 :=
  let c0_i32_400 : BitVec 32 := 0#32
  let c1_i32_402 : BitVec 32 := 1#32
  let arg11 : BitVec 32 := Scf.iv c0_i32_400 c1_i32_402 k0_t2
  let c128_i32_416 : BitVec 32 := 128#32
  let v822 : BitVec 32 := Scalar.muli arg11 c128_i32_416
  v822
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S5x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x4x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x4x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S5x2048x512 : Shape := ⟨3, ![5, 2048, 512]⟩
abbrev S5x2048 : Shape := ⟨2, ![5, 2048]⟩
abbrev S5x2048x4x128 : Shape := ⟨4, ![5, 2048, 4, 128]⟩
abbrev S64 : Shape := ⟨1, ![64]⟩
abbrev S_ : Shape := ⟨0, ![]⟩
abbrev S5x2048x1 : Shape := ⟨3, ![5, 2048, 1]⟩
abbrev S1x1x64 : Shape := ⟨3, ![1, 1, 64]⟩
abbrev S5x2048x64 : Shape := ⟨3, ![5, 2048, 64]⟩
abbrev S5x2048x1x64 : Shape := ⟨4, ![5, 2048, 1, 64]⟩
abbrev S5x2048x4x64 : Shape := ⟨4, ![5, 2048, 4, 64]⟩
abbrev S5x4 : Shape := ⟨2, ![5, 4]⟩
abbrev S5x1x4x1 : Shape := ⟨4, ![5, 1, 4, 1]⟩

abbrev nBuf : Space → Nat
  | .hbm => 138
  | .vmem => 0
  | .smem => 0
  | _ => 0

abbrev hbmTy0_0 (i : Nat) : BufTy := match i % 128 with
  | 0 => ⟨S5x2048x512, .bf16⟩
  | 1 => ⟨S5x2048x512, .bf16⟩
  | 2 => ⟨S5x2048, .i32⟩
  | 3 => ⟨S5x2048x512, .f32⟩
  | 4 => ⟨S5x2048x4x128, .f32⟩
  | 5 => ⟨S5x2048x512, .f32⟩
  | 6 => ⟨S5x2048x4x128, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S5x2048, .f32⟩
  | 24 => ⟨S5x2048x1, .f32⟩
  | 25 => ⟨S1x1x64, .f32⟩
  | 26 => ⟨S5x2048x64, .f32⟩
  | 27 => ⟨S5x2048x64, .f32⟩
  | 28 => ⟨S5x2048x64, .f32⟩
  | 29 => ⟨S5x2048x64, .f32⟩
  | 30 => ⟨S5x2048x1x64, .f32⟩
  | 31 => ⟨S5x2048x64, .f32⟩
  | 32 => ⟨S5x2048x1x64, .f32⟩
  | 33 => ⟨S5x2048x4x64, .f32⟩
  | 34 => ⟨S5x2048x4x64, .f32⟩
  | 35 => ⟨S5x2048x4x64, .f32⟩
  | 36 => ⟨S5x2048x4x64, .f32⟩
  | 37 => ⟨S5x2048x4x64, .f32⟩
  | 38 => ⟨S5x2048x4x64, .f32⟩
  | 39 => ⟨S5x2048x4x64, .f32⟩
  | 40 => ⟨S5x2048x4x64, .f32⟩
  | 41 => ⟨S5x2048x4x64, .f32⟩
  | 42 => ⟨S5x2048x4x64, .f32⟩
  | 43 => ⟨S5x2048x4x64, .f32⟩
  | 44 => ⟨S5x2048x4x64, .f32⟩
  | 45 => ⟨S5x2048x4x128, .f32⟩
  | 46 => ⟨S5x2048x4x128, .f32⟩
  | 47 => ⟨S_, .f32⟩
  | 48 => ⟨S5x4, .f32⟩
  | 49 => ⟨S_, .f32⟩
  | 50 => ⟨S5x4, .f32⟩
  | 51 => ⟨S5x4, .f32⟩
  | 52 => ⟨S5x4, .f32⟩
  | 53 => ⟨S_, .f32⟩
  | 54 => ⟨S_, .f32⟩
  | 55 => ⟨S5x4, .f32⟩
  | 56 => ⟨S5x4, .f32⟩
  | 57 => ⟨S5x4, .f32⟩
  | 58 => ⟨S_, .f32⟩
  | 59 => ⟨S5x4, .f32⟩
  | 60 => ⟨S5x4, .f32⟩
  | 61 => ⟨S_, .f32⟩
  | 62 => ⟨S5x4, .f32⟩
  | 63 => ⟨S5x4, .f32⟩
  | 64 => ⟨S_, .f32⟩
  | 65 => ⟨S5x4, .f32⟩
  | 66 => ⟨S5x4, .i1⟩
  | 67 => ⟨S_, .f32⟩
  | 68 => ⟨S_, .f32⟩
  | 69 => ⟨S5x4, .f32⟩
  | 70 => ⟨S5x4, .f32⟩
  | 71 => ⟨S5x4, .f32⟩
  | 72 => ⟨S_, .f32⟩
  | 73 => ⟨S5x4, .f32⟩
  | 74 => ⟨S5x4, .f32⟩
  | 75 => ⟨S5x1x4x1, .f32⟩
  | 76 => ⟨S5x2048x4x128, .f32⟩
  | 77 => ⟨S5x2048x4x128, .f32⟩
  | 78 => ⟨S_, .f32⟩
  | 79 => ⟨S_, .f32⟩
  | 80 => ⟨S_, .f32⟩
  | 81 => ⟨S5x2048x4x128, .f32⟩
  | 82 => ⟨S5x2048x4x128, .f32⟩
  | 83 => ⟨S_, .f32⟩
  | 84 => ⟨S5x2048x4x128, .f32⟩
  | 85 => ⟨S5x2048x4x128, .f32⟩
  | 86 => ⟨S5x2048x4x128, .fp8e4m3⟩
  | 87 => ⟨S_, .f32⟩
  | 88 => ⟨S5x4, .f32⟩
  | 89 => ⟨S5x4, .f32⟩
  | 90 => ⟨S5x2048x4x128, .fp8e4m3⟩
  | 91 => ⟨S5x4, .f32⟩
  | 92 => ⟨S5x2048x4x128, .f32⟩
  | 93 => ⟨S_, .f32⟩
  | 94 => ⟨S5x4, .f32⟩
  | 95 => ⟨S_, .f32⟩
  | 96 => ⟨S5x4, .f32⟩
  | 97 => ⟨S5x4, .f32⟩
  | 98 => ⟨S5x4, .f32⟩
  | 99 => ⟨S_, .f32⟩
  | 100 => ⟨S_, .f32⟩
  | 101 => ⟨S5x4, .f32⟩
  | 102 => ⟨S5x4, .f32⟩
  | 103 => ⟨S5x4, .f32⟩
  | 104 => ⟨S_, .f32⟩
  | 105 => ⟨S5x4, .f32⟩
  | 106 => ⟨S5x4, .f32⟩
  | 107 => ⟨S_, .f32⟩
  | 108 => ⟨S5x4, .f32⟩
  | 109 => ⟨S5x4, .f32⟩
  | 110 => ⟨S_, .f32⟩
  | 111 => ⟨S5x4, .f32⟩
  | 112 => ⟨S5x4, .i1⟩
  | 113 => ⟨S_, .f32⟩
  | 114 => ⟨S_, .f32⟩
  | 115 => ⟨S5x4, .f32⟩
  | 116 => ⟨S5x4, .f32⟩
  | 117 => ⟨S5x4, .f32⟩
  | 118 => ⟨S_, .f32⟩
  | 119 => ⟨S5x4, .f32⟩
  | 120 => ⟨S5x4, .f32⟩
  | 121 => ⟨S5x1x4x1, .f32⟩
  | 122 => ⟨S5x2048x4x128, .f32⟩
  | 123 => ⟨S5x2048x4x128, .f32⟩
  | 124 => ⟨S_, .f32⟩
  | 125 => ⟨S_, .f32⟩
  | 126 => ⟨S_, .f32⟩
  | 127 => ⟨S5x2048x4x128, .f32⟩
  | _ => ⟨S5x2048x512, .bf16⟩

abbrev hbmTy0_1 (i : Nat) : BufTy := match i % 128 with
  | 0 => ⟨S5x2048x4x128, .f32⟩
  | 1 => ⟨S_, .f32⟩
  | 2 => ⟨S5x2048x4x128, .f32⟩
  | 3 => ⟨S5x2048x4x128, .f32⟩
  | 4 => ⟨S5x2048x4x128, .fp8e4m3⟩
  | 5 => ⟨S_, .f32⟩
  | 6 => ⟨S5x4, .f32⟩
  | 7 => ⟨S5x4, .f32⟩
  | 8 => ⟨S5x2048x4x128, .fp8e4m3⟩
  | 9 => ⟨S5x4, .f32⟩
  | _ => ⟨S5x2048x512, .bf16⟩

abbrev hbmTy (i : Nat) : BufTy := match i / 128 with
  | 0 => hbmTy0_0 i
  | 1 => hbmTy0_1 i
  | _ => ⟨S5x2048x512, .bf16⟩

abbrev bufTy : (tb : Table) → Fin (tcTables nBuf tb) → BufTy
  | .hbm, ⟨i, _⟩ => hbmTy i
  | _, _ => ⟨S5x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_cst_13 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64_0 : Ref sig .tc := ⟨.hbm, 90, rfl⟩
abbrev main_v64_1 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_17 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_18 : Ref sig .tc := ⟨.hbm, 104, rfl⟩
abbrev main_v74 : Ref sig .tc := ⟨.hbm, 105, rfl⟩
abbrev main_v75 : Ref sig .tc := ⟨.hbm, 106, rfl⟩
abbrev main_cst_19 : Ref sig .tc := ⟨.hbm, 107, rfl⟩
abbrev main_v76 : Ref sig .tc := ⟨.hbm, 108, rfl⟩
abbrev main_v77 : Ref sig .tc := ⟨.hbm, 109, rfl⟩
abbrev main_cst_20 : Ref sig .tc := ⟨.hbm, 110, rfl⟩
abbrev main_v78 : Ref sig .tc := ⟨.hbm, 111, rfl⟩
abbrev main_v79 : Ref sig .tc := ⟨.hbm, 112, rfl⟩
abbrev main_cst_21 : Ref sig .tc := ⟨.hbm, 113, rfl⟩
abbrev main_call2_v0 : Ref sig .tc := ⟨.hbm, 114, rfl⟩
abbrev main_call2_v1 : Ref sig .tc := ⟨.hbm, 115, rfl⟩
abbrev main_v80 : Ref sig .tc := ⟨.hbm, 116, rfl⟩
abbrev main_v81 : Ref sig .tc := ⟨.hbm, 117, rfl⟩
abbrev main_cst_22 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_23 : Ref sig .tc := ⟨.hbm, 124, rfl⟩
abbrev main_cst_24 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v87 : Ref sig .tc := ⟨.hbm, 131, rfl⟩
abbrev main_v88 : Ref sig .tc := ⟨.hbm, 132, rfl⟩
abbrev main_cst_25 : Ref sig .tc := ⟨.hbm, 133, rfl⟩
abbrev main_v89 : Ref sig .tc := ⟨.hbm, 134, rfl⟩
abbrev main_v90 : Ref sig .tc := ⟨.hbm, 135, rfl⟩
abbrev main_v91_0 : Ref sig .tc := ⟨.hbm, 136, rfl⟩
abbrev main_v91_1 : Ref sig .tc := ⟨.hbm, 137, rfl⟩

abbrev nD : Nat := 1
abbrev τ : Topo := Topo.v7x

variable {F : FTy → Type} [FloatOps F]
-- ==== Proof.LoopKernel.lean ====
/-
  The first counted loop of the kernel body: sixteen trips, each over 128 tokens. A trip reads its tokens' positions
  (one row of the position scratch), the keys and the values; rotates the keys; stores the rotated keys and the values,
  one head at a time, into every fourth row of two scratch buffers; and carries eight running maxima of absolute values
  (four heads of keys, four of values). This file states what a trip stores and yields (`keyPieces`, `valuePieces`,
  `yield`), proves one trip (`trip`), and gives the loop its invariant (`loopInv_k0_t1`).
-/
module

public import proofs.«01_k».proof.Defs
public import proofs.«01_k».proof.Proof.Gen.Kernel.Frame
public import proofs.«01_k».proof.Proof.Gen.Kernel.Loops
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eight running maxima: four heads of rotated keys, then four heads of values. -/
abbrev Maxima (F : FTy → Type) : Type :=
  FVec F S8x128 .f32 × FVec F S8x128 .f32 × FVec F S8x128 .f32 × FVec F S8x128 .f32 × FVec F S8x128 .f32 × FVec F S8x128 .f32 × FVec F S8x128 .f32 × FVec F S8x128 .f32

/-! ## What one trip loads -/

/-- The positions of trip `t`'s tokens, replicated over eight rows. -/
abbrev posTile (i : grid0.Coords) (X : Vec F S80x8x128 .i32) (t : Fin k0_t1_loop.trips) : Vec F S1x8x128 .i32 :=
  View.ld X (Rect.unit (s := S80x8x128) (k0_off1 i t) S1x8x128.size (k0_off1_inb i t))
/-- Head 0 of trip `t`'s tokens. -/
abbrev head0 (x : Vec F S1x2048x512 .bf16) (t : Fin k0_t1_loop.trips) : Vec F S1x128x128 .bf16 :=
  View.ld x (Rect.unit (s := S1x2048x512) (k0_off2 t) S1x128x128.size (k0_off2_inb t))
/-- Head 1 of trip `t`'s tokens. -/
abbrev head1 (x : Vec F S1x2048x512 .bf16) (t : Fin k0_t1_loop.trips) : Vec F S1x128x128 .bf16 :=
  View.ld x (Rect.unit (s := S1x2048x512) (k0_off4 t) S1x128x128.size (k0_off4_inb t))
/-- Head 2 of trip `t`'s tokens. -/
abbrev head2 (x : Vec F S1x2048x512 .bf16) (t : Fin k0_t1_loop.trips) : Vec F S1x128x128 .bf16 :=
  View.ld x (Rect.unit (s := S1x2048x512) (k0_off5 t) S1x128x128.size (k0_off5_inb t))
/-- Head 3 of trip `t`'s tokens. -/
abbrev head3 (x : Vec F S1x2048x512 .bf16) (t : Fin k0_t1_loop.trips) : Vec F S1x128x128 .bf16 :=
  View.ld x (Rect.unit (s := S1x2048x512) (k0_off6 t) S1x128x128.size (k0_off6_inb t))

/-- Every fourth row of trip `t`'s 512 scratch rows, from row `h`: head `h` of its 128 tokens. -/
abbrev headRows (t : Fin k0_t1_loop.trips) (h : Fin 4) : Rect S8192x128 :=
  ⟨(⟨k0_off3 t (BitVec.ofNat 32 h.val), S128x128.size, ![4, 1], (k0_off3_inb t h)⟩ : LoadRect S8192x128), spos_4_1⟩

/-! ## What one trip stores and yields -/

/-- The rotated keys trip `t` stores, head by head (the last store first). -/
def keyPieces (i : grid0.Coords) (v0 : IVec S128x128 32) (v11 : FVec F S128x128 .f32) (X : Vec F S80x8x128 .i32)
    (x : Vec F S1x2048x512 .bf16) (t : Fin k0_t1_loop.trips) : List (View.Piece (Elt F) S8192x128 .f32) :=
  [⟨headRows t 3, k0_pay123 (k0_pay22 (k0_pay2 v11 (posTile i X t)) (k0_pay3 v0 v11 (posTile i X t)) (head3 x t))⟩,
   ⟨headRows t 2, k0_pay17 (k0_pay2 v11 (posTile i X t)) (k0_pay3 v0 v11 (posTile i X t)) (head2 x t)⟩,
   ⟨headRows t 1, k0_pay11 (k0_pay2 v11 (posTile i X t)) (k0_pay3 v0 v11 (posTile i X t)) (head1 x t)⟩,
   ⟨headRows t 0, k0_pay5 v0 v11 (posTile i X t) (head0 x t)⟩]

/-- The values trip `t` stores, head by head (the last store first). -/
def valuePieces (x : Vec F S1x2048x512 .bf16) (t : Fin k0_t1_loop.trips) : List (View.Piece (Elt F) S8192x128 .f32) :=
  [⟨headRows t 3, k0_pay125 (head3 x t)⟩,
   ⟨headRows t 2, k0_pay19 (head2 x t)⟩,
   ⟨headRows t 1, k0_pay13 (head1 x t)⟩,
   ⟨headRows t 0, k0_pay7 (k0_pay6 (head0 x t))⟩]

/-- The maxima after trip `t`, from those before it. -/
def yield (i : grid0.Coords) (v0 : IVec S128x128 32) (v11 : FVec F S128x128 .f32) (X : Vec F S80x8x128 .i32)
    (x2 x3 : Vec F S1x2048x512 .bf16) (t : Fin k0_t1_loop.trips) (a : Maxima F) : Maxima F :=
  (k0_pay8 a.1 (k0_pay4 v0 v11 (posTile i X t) (head0 x2 t)),
   k0_pay14 a.2.1 (k0_pay2 v11 (posTile i X t)) (k0_pay3 v0 v11 (posTile i X t)) (head1 x2 t),
   k0_pay20 a.2.2.1 (k0_pay2 v11 (posTile i X t)) (k0_pay3 v0 v11 (posTile i X t)) (head2 x2 t),
   k0_pay126 a.2.2.2.1 (k0_pay22 (k0_pay2 v11 (posTile i X t)) (k0_pay3 v0 v11 (posTile i X t)) (head3 x2 t)),
   k0_pay9 a.2.2.2.2.1 (k0_pay6 (head0 x3 t)),
   k0_pay15 a.2.2.2.2.2.1 (head1 x3 t),
   k0_pay21 a.2.2.2.2.2.2.1 (head2 x3 t),
   k0_pay127 a.2.2.2.2.2.2.2 (head3 x3 t))

/-- One trip's resources: what it reads at its contents, what it writes at any. -/
abbrev Trip1 (c : Dev nD) (arg2 : Memref sig .tc .vmem S1x2048x512 .bf16) (arg3 : Memref sig .tc .vmem S1x2048x512 .bf16)
    (arg8 : Memref sig .tc .vmem S8192x128 .f32) (arg9 : Memref sig .tc .vmem S8192x128 .f32) (arg10 : Memref sig .tc .vmem S80x8x128 .i32)
    (X2 : BufTy.Contents (Elt F) arg2.view.ty) (X3 : BufTy.Contents (Elt F) arg3.view.ty) (X10 : BufTy.Contents (Elt F) arg10.view.ty)
    (f8 : BufTy.Contents (Elt F) arg8.view.ty) (f9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} X10)
    ∗ (arg8.view.loc (c : Thread nD τ) ↦[arg8.view.set]{fullShare} f8) ∗ (arg9.view.loc (c : Thread nD τ) ↦[arg9.view.set]{fullShare} f9))

set_option maxHeartbeats 4000000 in
/-- One trip at a symbolic `t`: it stores `keyPieces` and `valuePieces` and yields `yield`. -/
theorem trip1 (c : Dev nD) (E : Set ℕ) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (arg0 : BitVec 32) (v0 : IVec S128x128 32) (v11 : FVec F S128x128 .f32) (v482 : IVec S8x128 32)
    (X2 : BufTy.Contents (Elt F) arg2.view.ty) (X3 : BufTy.Contents (Elt F) arg3.view.ty) (X10 : BufTy.Contents (Elt F) arg10.view.ty)
    (f8 : BufTy.Contents (Elt F) arg8.view.ty) (f9 : BufTy.Contents (Elt F) arg9.view.ty) (t : Fin k0_t1_loop.trips) (a : Maxima F) :
    Trip1 (F := F) c arg2 arg3 arg8 arg9 arg10 X2 X3 X10 f8 f9
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg0 v0 v11 v482 t a)
          (fun r => iprop(Trip1 (F := F) c arg2 arg3 arg8 arg9 arg10 X2 X3 X10
            (arg8.view.writes (Elt F) f8 (keyPieces i v0 v11 (arg10.view.read (Elt F) X10) (arg2.view.read (Elt F) X2) t))
            (arg9.view.writes (Elt F) f9 (valuePieces (arg3.view.read (Elt F) X3) t))
            ∗ ⌜r = yield i v0 v11 (arg10.view.read (Elt F) X10) (arg2.view.read (Elt F) X2) (arg3.view.read (Elt F) X3) t a⌝)) := by
  have hk : t.val < 16 := Nat.lt_of_lt_of_le t.isLt k0_t1_abs.2.1
  obtain ⟨a0, a1, a2, a3, a4, a5, a6, a7⟩ := a
  unfold k0_t1_body
  iintro ⟨H2, H3, H10, H8, H9⟩
  sl_exec
  sl_step
  isplitl [H2 H3 H10 H8 H9]
  · isplitl [H2]; · iexact H2
    isplitl [H3]; · iexact H3
    isplitl [H10]; · iexact H10
    isplitl [H8]; · iexact H8
    iexact H9
  ipureintro
  rfl

/-! ## The loop -/

/-- The keys stored by the trips before `k`, the last first. -/
def keysTo (i : grid0.Coords) (v0 : IVec S128x128 32) (v11 : FVec F S128x128 .f32) (X : Vec F S80x8x128 .i32)
    (x : Vec F S1x2048x512 .bf16) : ℕ → List (View.Piece (Elt F) S8192x128 .f32)
  | 0 => []
  | k + 1 => if h : k < k0_t1_loop.trips then keyPieces i v0 v11 X x ⟨k, h⟩ ++ keysTo i v0 v11 X x k else keysTo i v0 v11 X x k

/-- The values stored by the trips before `k`, the last first. -/
def valuesTo (x : Vec F S1x2048x512 .bf16) : ℕ → List (View.Piece (Elt F) S8192x128 .f32)
  | 0 => []
  | k + 1 => if h : k < k0_t1_loop.trips then valuePieces x ⟨k, h⟩ ++ valuesTo x k else valuesTo x k

/-- The maxima before trip `k`. -/
def maximaTo (i : grid0.Coords) (v0 : IVec S128x128 32) (v11 : FVec F S128x128 .f32) (X : Vec F S80x8x128 .i32)
    (x2 x3 : Vec F S1x2048x512 .bf16) (init : Maxima F) : ℕ → Maxima F
  | 0 => init
  | k + 1 => if h : k < k0_t1_loop.trips then yield i v0 v11 X x2 x3 ⟨k, h⟩ (maximaTo i v0 v11 X x2 x3 init k)
      else maximaTo i v0 v11 X x2 x3 init k

/-- The stores into the keys' scratch after trip `t`: the trip's own, then those before. -/
theorem keysTo_succ (i : grid0.Coords) (v0 : IVec S128x128 32) (v11 : FVec F S128x128 .f32) (X : Vec F S80x8x128 .i32)
    (x : Vec F S1x2048x512 .bf16) (t : Fin k0_t1_loop.trips) :
    keysTo i v0 v11 X x (t.val + 1) = keyPieces i v0 v11 X x t ++ keysTo i v0 v11 X x t.val := by
  rw [keysTo]; exact dif_pos t.isLt
/-- The stores into the values' scratch after trip `t`: the trip's own, then those before. -/
theorem valuesTo_succ (x : Vec F S1x2048x512 .bf16) (t : Fin k0_t1_loop.trips) :
    valuesTo x (t.val + 1) = valuePieces x t ++ valuesTo x t.val := by
  rw [valuesTo]; exact dif_pos t.isLt
/-- The maxima after trip `t` are those the trip makes of the maxima before it. -/
theorem maximaTo_succ (i : grid0.Coords) (v0 : IVec S128x128 32) (v11 : FVec F S128x128 .f32) (X : Vec F S80x8x128 .i32)
    (x2 x3 : Vec F S1x2048x512 .bf16) (init : Maxima F) (t : Fin k0_t1_loop.trips) :
    maximaTo i v0 v11 X x2 x3 init (t.val + 1) = yield i v0 v11 X x2 x3 t (maximaTo i v0 v11 X x2 x3 init t.val) := by
  rw [maximaTo]; exact dif_pos t.isLt

/-- The invariant before trip `k`: keys, values and positions at their contents, the two scratches at the pieces of the
    trips before `k` over what they held at entry, the carried maxima those of the trips before `k`. -/
abbrev inv1 (c : Dev nD) (i : grid0.Coords) (arg2 : Memref sig .tc .vmem S1x2048x512 .bf16) (arg3 : Memref sig .tc .vmem S1x2048x512 .bf16)
    (arg8 : Memref sig .tc .vmem S8192x128 .f32) (arg9 : Memref sig .tc .vmem S8192x128 .f32) (arg10 : Memref sig .tc .vmem S80x8x128 .i32)
    (v0 : IVec S128x128 32) (v11 : FVec F S128x128 .f32) (init : Maxima F)
    (X2 : BufTy.Contents (Elt F) arg2.view.ty) (X3 : BufTy.Contents (Elt F) arg3.view.ty) (X10 : BufTy.Contents (Elt F) arg10.view.ty)
    (G8 : BufTy.Contents (Elt F) arg8.view.ty) (G9 : BufTy.Contents (Elt F) arg9.view.ty) (k : ℕ) (acc : Maxima F) : sProp 𝕄 :=
  iprop((arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} X10)
    ∗ (∃ f, (arg8.view.loc (c : Thread nD τ) ↦[arg8.view.set]{fullShare} f)
        ∗ ⌜f = arg8.view.writes (Elt F) G8 (keysTo i v0 v11 (arg10.view.read (Elt F) X10) (arg2.view.read (Elt F) X2) k)⌝)
    ∗ (∃ f, (arg9.view.loc (c : Thread nD τ) ↦[arg9.view.set]{fullShare} f)
        ∗ ⌜f = arg9.view.writes (Elt F) G9 (valuesTo (arg3.view.read (Elt F) X3) k)⌝)
    ∗ ⌜acc = maximaTo i v0 v11 (arg10.view.read (Elt F) X10) (arg2.view.read (Elt F) X2) (arg3.view.read (Elt F) X3) init k⌝)

set_option warn.classDefReducibility false in
/-- The loop by its invariant. -/
@[sl_loop] def loopInv_k0_t1 (c : Dev nD) (E : Set ℕ) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (arg0 : BitVec 32) (v0 : IVec S128x128 32) (v11 : FVec F S128x128 .f32) (v482 : IVec S8x128 32) (init : Maxima F)
    (X2 : BufTy.Contents (Elt F) arg2.view.ty) (X3 : BufTy.Contents (Elt F) arg3.view.ty) (X10 : BufTy.Contents (Elt F) arg10.view.ty)
    (G8 : BufTy.Contents (Elt F) arg8.view.ty) (G9 : BufTy.Contents (Elt F) arg9.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg0 v0 v11 v482 init where
  inv := inv1 (F := F) c i arg2 arg3 arg8 arg9 arg10 v0 v11 init X2 X3 X10 G8 G9
  step k acc := by
    iintro ⟨H2, H3, H10, ⟨%f8, H8, %h8⟩, ⟨%f9, H9, %h9⟩, %ha⟩
    iapply (wp_wand_r Idealize.ShloMosaic.frame (wpE (defs₀ (F := F)) Variants.none (c : Thread nD τ) none) E)
    isplitl [H2 H3 H10 H8 H9]
    · iapply (trip1 (F := F) c E i arg1 harg1 arg2 harg2 arg3 harg3 arg4 harg4 arg5 harg5 arg6 harg6 arg7 harg7 arg8 harg8 arg9 harg9 arg10 harg10 arg0 v0 v11 v482 X2 X3 X10 f8 f9 k acc)
      isplitl [H2]; · iexact H2
      isplitl [H3]; · iexact H3
      isplitl [H10]; · iexact H10
      isplitl [H8]; · iexact H8
      iexact H9
    · iintro %r ⟨⟨H2, H3, H10, H8, H9⟩, %hr⟩
      isplitl [H2]; · iexact H2
      isplitl [H3]; · iexact H3
      isplitl [H10]; · iexact H10
      isplitl [H8]
      · iexists _; isplitl [H8]; · iexact H8
        ipureintro; rw [keysTo_succ, View.writes_append, ← h8]
      isplitl [H9]
      · iexists _; isplitl [H9]; · iexact H9
        ipureintro; rw [valuesTo_succ, View.writes_append, ← h9]
      ipureintro; rw [maximaTo_succ, ← ha]; exact hr

end Cert.Proof.Kernel

end
-- ==== Proof.ContentKernel.lean ====
/-
  What the kernel body leaves in its scratch buffers and output blocks, as functions of its input blocks alone, and the
  proofs that the run's lists of writes read back as those functions. The positions are spread over 80 rows
  (`posAll`), the rotated keys and the values over 8192 rows (`rows`), four rows per token, and the codes over the output
  blocks (`codes`), 128 tokens per trip of the second loop.
-/
module

public import proofs.«01_k».proof.Proof.LoopKernel
public import Idealize.ShloMosaic.Lib.ValueIdxCore

@[expose] public section

noncomputable section

namespace Cert.Proof.Kernel

open Cert.Kernel Cert.Kernel.Gen
open Idealize.ShloMosaic Idealize.ShloMosaic.TcCoe Idealize.ShloMosaic.Tactic Idealize.ShloMosaic.ValueIdx

variable {F : FTy → Type} [FloatOps F]

/-- The first loop makes sixteen trips. -/
theorem trips1 : k0_t1_loop.trips = 16 := by decide +kernel
/-- The second loop makes sixteen trips. -/
theorem trips2 : k0_t2_loop.trips = 16 := by decide +kernel

/-! ## The positions scratch -/

/-- Row `k` lies in the positions scratch. -/
theorem posInb (k : Fin 80) : ∀ a, (![k.val, 0, 0] : Fin 3 → ℕ) a + S1x8x128.size a ≤ S80x8x128.size a := by
  intro a; have := k.isLt
  match a with
  | ⟨0, _⟩ => show k.val + 1 ≤ 80; omega
  | ⟨1, _⟩ => show 0 + 8 ≤ 8; omega
  | ⟨2, _⟩ => show 0 + 128 ≤ 128; omega
/-- The 128 positions that row `k` is filled from lie in the positions' block. -/
theorem rowInb (k : Fin 80) : ∀ a, (![k.val % 5, k.val / 5 * 128] : Fin 2 → ℕ) a + S1x128.size a ≤ S5x2048.size a := by
  intro a; have := k.isLt
  match a with
  | ⟨0, _⟩ => show k.val % 5 + 1 ≤ 5; omega
  | ⟨1, _⟩ => show k.val / 5 * 128 + 128 ≤ 2048; omega

/-- Row `k` of the positions scratch: 128 positions of sequence `k % 5`, from token `128 (k / 5)`, eight times. -/
abbrev posRow (x : Vec F S5x2048 .i32) (k : Fin 80) : Vec F S1x8x128 .i32 :=
  k0_pay26 (View.ld x (Rect.unit (s := S5x2048) ![k.val % 5, k.val / 5 * 128] S1x128.size (rowInb k)))

/-- The store of row `k`. -/
abbrev posPiece (x : Vec F S5x2048 .i32) (k : Fin 80) : View.Piece (Elt F) S80x8x128 .i32 :=
  ⟨Rect.unit (s := S80x8x128) ![k.val, 0, 0] S1x8x128.size (posInb k), posRow x k⟩

/-- The 80 stores, the last first. -/
def posList (x : Vec F S5x2048 .i32) : List (View.Piece (Elt F) S80x8x128 .i32) :=
  [posPiece x 79, posPiece x 78, posPiece x 77, posPiece x 76, posPiece x 75, posPiece x 74, posPiece x 73, posPiece x 72, posPiece x 71, posPiece x 70, posPiece x 69, posPiece x 68, posPiece x 67, posPiece x 66, posPiece x 65, posPiece x 64, posPiece x 63, posPiece x 62, posPiece x 61, posPiece x 60, posPiece x 59, posPiece x 58, posPiece x 57, posPiece x 56, posPiece x 55, posPiece x 54, posPiece x 53, posPiece x 52, posPiece x 51, posPiece x 50, posPiece x 49, posPiece x 48, posPiece x 47, posPiece x 46, posPiece x 45, posPiece x 44, posPiece x 43, posPiece x 42, posPiece x 41, posPiece x 40, posPiece x 39, posPiece x 38, posPiece x 37, posPiece x 36, posPiece x 35, posPiece x 34, posPiece x 33, posPiece x 32, posPiece x 31, posPiece x 30, posPiece x 29, posPiece x 28, posPiece x 27, posPiece x 26, posPiece x 25, posPiece x 24, posPiece x 23, posPiece x 22, posPiece x 21, posPiece x 20, posPiece x 19, posPiece x 18, posPiece x 17, posPiece x 16, posPiece x 15, posPiece x 14, posPiece x 13, posPiece x 12, posPiece x 11, posPiece x 10, posPiece x 9, posPiece x 8, posPiece x 7, posPiece x 6, posPiece x 5, posPiece x 4, posPiece x 3, posPiece x 2, posPiece x 1, posPiece x 0]

/-- What the positions scratch holds after them. -/
def posAll (x : Vec F S5x2048 .i32) : Vec F S80x8x128 .i32 := fun j => posRow x (j 0) (ix3 0 (j 1) (j 2))

/-- The list of stores, written out, is the list of rows from 79 down to 0. -/
theorem posList_eq (x : Vec F S5x2048 .i32) : posList x = List.ofFn (fun k : Fin 80 => posPiece x k.rev) := rfl

/-- The 80 stores read back as `posAll`. -/
theorem read_posList (a : Memref sig .tc .vmem S80x8x128 .i32) (f : BufTy.Contents (Elt F) a.view.ty) (x : Vec F S5x2048 .i32) :
    a.view.read (Elt F) (a.view.writes (Elt F) f (posList x)) = posAll x := by
  funext y
  refine View.read_writes_apply_of_pieces a.view f (posAll x) (posList x) (fun p hp z => ?_) y ?_
  · rw [posList_eq, List.mem_ofFn] at hp
    obtain ⟨k, rfl⟩ := hp
    have h0 : (z 0).val < 1 := (z 0).isLt
    have e0 : ((Rect.unit (s := S80x8x128) ![k.rev.val, 0, 0] S1x8x128.size (posInb k.rev)).emb z) 0 = k.rev := by
      apply Fin.ext; show k.rev.val + 1 * (z 0).val = k.rev.val; omega
    show posRow x k.rev z = posRow x (((Rect.unit (s := S80x8x128) ![k.rev.val, 0, 0] S1x8x128.size (posInb k.rev)).emb z) 0) _
    rw [e0]
    congr 1
    funext d
    match d with
    | ⟨0, _⟩ => apply Fin.ext; show (z 0).val = 0; omega
    | ⟨1, _⟩ => apply Fin.ext; show (z 1).val = 0 + 1 * (z 1).val; omega
    | ⟨2, _⟩ => apply Fin.ext; show (z 2).val = 0 + 1 * (z 2).val; omega
  · refine ⟨posPiece x (y 0), ?_, (Rect.mem_set_unit (inb := posInb (y 0))).mpr fun a => ?_⟩
    · rw [posList_eq, List.mem_ofFn]; exact ⟨Fin.rev (n := 80) (y 0), congrArg (posPiece x) (Fin.rev_rev (n := 80) (y 0))⟩
    · match a with
      | ⟨0, _⟩ => exact ⟨le_refl _, Nat.lt_succ_self _⟩
      | ⟨1, _⟩ => exact ⟨Nat.zero_le _, by have := (y 1).isLt; show (y 1).val < 0 + 8; rw [Nat.zero_add]; exact this⟩
      | ⟨2, _⟩ => exact ⟨Nat.zero_le _, by have := (y 2).isLt; show (y 2).val < 0 + 128; rw [Nat.zero_add]; exact this⟩

/-! ## The two scratch buffers of rows -/

/-- A tile of 128 tokens by 128 lanes per trip and head. -/
abbrev Tiles (F : FTy → Type) : Type := Fin k0_t1_loop.trips → Fin 4 → Vec F S128x128 .f32

/-- One trip's four stores of tiles, the last first. -/
def tilePieces (T : Tiles F) (t : Fin k0_t1_loop.trips) : List (View.Piece (Elt F) S8192x128 .f32) :=
  [⟨headRows t 3, T t 3⟩, ⟨headRows t 2, T t 2⟩, ⟨headRows t 1, T t 1⟩, ⟨headRows t 0, T t 0⟩]

/-- The stores of the trips before `k`, the last first. -/
def tilesTo (T : Tiles F) : ℕ → List (View.Piece (Elt F) S8192x128 .f32)
  | 0 => []
  | k + 1 => if h : k < k0_t1_loop.trips then tilePieces T ⟨k, h⟩ ++ tilesTo T k else tilesTo T k

/-- The rows they leave: row `512 t + 4 s + h` holds token `s` of trip `t`'s tile of head `h`. -/
def rows (T : Tiles F) : Vec F S8192x128 .f32 := fun j =>
  T ⟨(j 0).val / 512, by rw [trips1]; have := idx2_lt0 j; omega⟩ ⟨(j 0).val % 4, by omega⟩
    (ix2 ⟨(j 0).val % 512 / 4, by omega⟩ (j 1))

/-- Row `z` of head `h`'s store in trip `t` is row `512 t + h + 4 z` of the scratch. -/
theorem headRows_emb0 (t : Fin k0_t1_loop.trips) (h : Fin 4) (z : (headRows t h).shape.Idx) :
    (((headRows t h).emb z) 0).val = 512 * t.val + h.val + 4 * (z 0).val := by
  show k0_off3 t (BitVec.ofNat 32 h.val) 0 + 4 * (z 0).val = _
  rw [k0_off3_eq]; rfl
/-- Its lanes are the scratch's lanes. -/
theorem headRows_emb1 (t : Fin k0_t1_loop.trips) (h : Fin 4) (z : (headRows t h).shape.Idx) :
    (((headRows t h).emb z) 1).val = (z 1).val := by
  show k0_off3 t (BitVec.ofNat 32 h.val) 1 + 1 * (z 1).val = _
  rw [k0_off3_eq]; show 0 + 1 * (z 1).val = (z 1).val; omega

/-- A tile stored agrees with the rows. -/
theorem rows_emb (T : Tiles F) (t : Fin k0_t1_loop.trips) (h : Fin 4) (z : (headRows t h).shape.Idx) :
    T t h z = rows T ((headRows t h).emb z) := by
  have e0 := headRows_emb0 t h z
  have e1 := headRows_emb1 t h z
  have hz0 : (z 0).val < 128 := (z 0).isLt
  have hh := h.isLt
  unfold rows
  have a1 : (⟨(((headRows t h).emb z) 0).val / 512, by rw [trips1]; have := idx2_lt0 ((headRows t h).emb z); omega⟩ : Fin k0_t1_loop.trips) = t :=
    Fin.ext (by show (((headRows t h).emb z) 0).val / 512 = t.val; rw [e0]; omega)
  have a2 : (⟨(((headRows t h).emb z) 0).val % 4, by omega⟩ : Fin 4) = h :=
    Fin.ext (by show (((headRows t h).emb z) 0).val % 4 = h.val; rw [e0]; omega)
  rw [a1, a2]
  congr 1
  funext d
  match d with
  | ⟨0, _⟩ => apply Fin.ext; show (z 0).val = (((headRows t h).emb z) 0).val % 512 / 4; rw [e0]; omega
  | ⟨1, _⟩ => apply Fin.ext; exact e1.symm

/-- Every store before trip `k` agrees with the rows. -/
theorem tilesTo_agree (T : Tiles F) : ∀ k, ∀ p ∈ tilesTo T k, ∀ z : p.1.shape.Idx, p.2 z = rows T (p.1.emb z)
  | 0 => by intro p hp; exact absurd hp List.not_mem_nil
  | k + 1 => by
    intro p hp z
    rw [tilesTo] at hp
    split at hp
    · rcases List.mem_append.mp hp with hp | hp
      · simp only [tilePieces, List.mem_cons, List.not_mem_nil, or_false] at hp
        rcases hp with rfl | rfl | rfl | rfl
        · exact rows_emb T _ 3 z
        · exact rows_emb T _ 2 z
        · exact rows_emb T _ 1 z
        · exact rows_emb T _ 0 z
      · exact tilesTo_agree T k p hp z
    · exact tilesTo_agree T k p hp z

/-- Head `h`'s store of an earlier trip is among the stores before trip `k`. -/
theorem mem_tilesTo (T : Tiles F) (t : Fin k0_t1_loop.trips) (h : Fin 4) :
    ∀ k, t.val < k → (⟨headRows t h, T t h⟩ : View.Piece (Elt F) S8192x128 .f32) ∈ tilesTo T k
  | 0, hk => absurd hk (Nat.not_lt_zero _)
  | k + 1, hk => by
    rw [tilesTo]
    by_cases hkt : k < k0_t1_loop.trips
    · rw [dif_pos hkt]
      rcases Nat.lt_succ_iff_lt_or_eq.mp hk with hlt | he
      · exact List.mem_append_right _ (mem_tilesTo T t h k hlt)
      · have : t = ⟨k, hkt⟩ := Fin.ext he
        subst this
        refine List.mem_append_left _ ?_
        simp only [tilePieces, List.mem_cons, List.not_mem_nil, or_false]
        match h with
        | ⟨0, _⟩ => exact .inr (.inr (.inr rfl))
        | ⟨1, _⟩ => exact .inr (.inr (.inl rfl))
        | ⟨2, _⟩ => exact .inr (.inl rfl)
        | ⟨3, _⟩ => exact .inl rfl
    · rw [dif_neg hkt]; have := t.isLt; exact mem_tilesTo T t h k (by omega)

/-- Sixteen trips' stores read back as `rows`. -/
theorem read_tilesTo (a : Memref sig .tc .vmem S8192x128 .f32) (f : BufTy.Contents (Elt F) a.view.ty) (T : Tiles F) :
    a.view.read (Elt F) (a.view.writes (Elt F) f (tilesTo T k0_t1_loop.trips)) = rows T := by
  funext y
  refine View.read_writes_apply_of_pieces a.view f (rows T) _ (tilesTo_agree T _) y ?_
  have hy : (y 0).val < 8192 := idx2_lt0 y
  have hy1 : (y 1).val < 128 := idx2_lt1 y
  have ht : (y 0).val / 512 < k0_t1_loop.trips := by rw [trips1]; omega
  refine ⟨_, mem_tilesTo T ⟨(y 0).val / 512, ht⟩ ⟨(y 0).val % 4, by omega⟩ _ ht, ?_⟩
  refine (headRows _ _).mem_set.mpr fun a => ?_
  match a with
  | ⟨0, _⟩ =>
    refine ⟨(y 0).val % 512 / 4, show (y 0).val % 512 / 4 < 128 by omega, ?_⟩
    show (y 0).val = k0_off3 ⟨(y 0).val / 512, ht⟩ (BitVec.ofNat 32 ((⟨(y 0).val % 4, by omega⟩ : Fin 4)).val) 0 + 4 * ((y 0).val % 512 / 4)
    rw [k0_off3_eq]
    show (y 0).val = 512 * ((y 0).val / 512) + (y 0).val % 4 + 4 * ((y 0).val % 512 / 4)
    omega
  | ⟨1, _⟩ =>
    refine ⟨(y 1).val, hy1, ?_⟩
    show (y 1).val = k0_off3 ⟨(y 0).val / 512, ht⟩ (BitVec.ofNat 32 ((⟨(y 0).val % 4, by omega⟩ : Fin 4)).val) 1 + 1 * (y 1).val
    rw [k0_off3_eq]
    show (y 1).val = 0 + 1 * (y 1).val
    omega

/-- The lane number at every element. -/
abbrev lanes : IVec S128x128 32 := iota .tc S128x128 32 [1] iota_S128x128_d1_w32

/-- The rotated keys, tile by tile. -/
def keyTiles (i : grid0.Coords) (X : Vec F S80x8x128 .i32) (x : Vec F S1x2048x512 .bf16) : Tiles F := fun t =>
  ![k0_pay5 lanes k0_pay25 (posTile i X t) (head0 x t),
    k0_pay11 (k0_pay2 k0_pay25 (posTile i X t)) (k0_pay3 lanes k0_pay25 (posTile i X t)) (head1 x t),
    k0_pay17 (k0_pay2 k0_pay25 (posTile i X t)) (k0_pay3 lanes k0_pay25 (posTile i X t)) (head2 x t),
    k0_pay123 (k0_pay22 (k0_pay2 k0_pay25 (posTile i X t)) (k0_pay3 lanes k0_pay25 (posTile i X t)) (head3 x t))]

/-- The values, tile by tile. -/
def valueTiles (x : Vec F S1x2048x512 .bf16) : Tiles F := fun t =>
  ![k0_pay7 (k0_pay6 (head0 x t)), k0_pay13 (head1 x t), k0_pay19 (head2 x t), k0_pay125 (head3 x t)]

/-- The stores into the keys' scratch are those of the key tiles. -/
theorem keysTo_eq (i : grid0.Coords) (X : Vec F S80x8x128 .i32) (x : Vec F S1x2048x512 .bf16) :
    ∀ k, keysTo i lanes k0_pay25 X x k = tilesTo (keyTiles i X x) k
  | 0 => rfl
  | k + 1 => by
    rw [keysTo, tilesTo, keysTo_eq i X x k]; rfl
/-- The stores into the values' scratch are those of the value tiles. -/
theorem valuesTo_eq (x : Vec F S1x2048x512 .bf16) : ∀ k, valuesTo x k = tilesTo (valueTiles x) k
  | 0 => rfl
  | k + 1 => by
    rw [valuesTo, tilesTo, valuesTo_eq x k]; rfl

/-! ## The codes -/

/-- A tile of 128 tokens' codes per trip of the second loop. -/
abbrev CodeTiles (F : FTy → Type) : Type := Fin k0_t2_loop.trips → Vec F S1x128x4x128 .fp8e4m3

/-- The store of trip `t`. -/
abbrev codePiece (T : CodeTiles F) (t : Fin k0_t2_loop.trips) : View.Piece (Elt F) S1x2048x4x128 .fp8e4m3 :=
  ⟨Rect.unit (s := S1x2048x4x128) (k0_off8 t) S1x128x4x128.size (k0_off8_inb t), T t⟩

/-- The stores of the trips before `k`, the last first. -/
def codesTo (T : CodeTiles F) : ℕ → List (View.Piece (Elt F) S1x2048x4x128 .fp8e4m3)
  | 0 => []
  | k + 1 => if h : k < k0_t2_loop.trips then codePiece T ⟨k, h⟩ :: codesTo T k else codesTo T k

/-- The block they leave: token `128 t + s` holds row `s` of trip `t`'s tile. -/
def codes (T : CodeTiles F) : Vec F S1x2048x4x128 .fp8e4m3 := fun j =>
  T ⟨(j 1).val / 128, by rw [trips2]; have : (j 1).val < 2048 := (j 1).isLt; omega⟩
    (ix4 0 ⟨(j 1).val % 128, by omega⟩ (j 2) (j 3))

/-- A tile of codes agrees with the block where it is stored. -/
theorem codes_emb (T : CodeTiles F) (t : Fin k0_t2_loop.trips) (z : (codePiece T t).1.shape.Idx) :
    T t z = codes T ((codePiece T t).1.emb z) := by
  have hz0 : (z 0).val < 1 := (z 0).isLt
  have hz1 : (z 1).val < 128 := (z 1).isLt
  have e (d : Fin 4) : (((codePiece T t).1.emb z) d).val = (![0, 128 * t.val, 0, 0] : Fin 4 → ℕ) d + 1 * (z d).val := by
    show k0_off8 t d + 1 * (z d).val = _
    rw [k0_off8_eq]
  have e1 : (((codePiece T t).1.emb z) 1).val = 128 * t.val + 1 * (z 1).val := e 1
  unfold codes
  have a1 : (⟨(((codePiece T t).1.emb z) 1).val / 128, by rw [trips2]; have : (((codePiece T t).1.emb z) 1).val < 2048 := (((codePiece T t).1.emb z) 1).isLt; omega⟩ : Fin k0_t2_loop.trips) = t :=
    Fin.ext (by show (((codePiece T t).1.emb z) 1).val / 128 = t.val; rw [e1]; omega)
  rw [a1]
  congr 1
  funext d
  match d with
  | ⟨0, _⟩ => apply Fin.ext; show (z 0).val = 0; omega
  | ⟨1, _⟩ => apply Fin.ext; show (z 1).val = (((codePiece T t).1.emb z) 1).val % 128; rw [e1]; omega
  | ⟨2, _⟩ => apply Fin.ext; refine Eq.trans ?_ (e 2).symm; show (z 2).val = 0 + 1 * (z 2).val; omega
  | ⟨3, _⟩ => apply Fin.ext; refine Eq.trans ?_ (e 3).symm; show (z 3).val = 0 + 1 * (z 3).val; omega

/-- Every store of codes before trip `k` agrees with the block. -/
theorem codesTo_agree (T : CodeTiles F) : ∀ k, ∀ p ∈ codesTo T k, ∀ z : p.1.shape.Idx, p.2 z = codes T (p.1.emb z)
  | 0 => by intro p hp; exact absurd hp List.not_mem_nil
  | k + 1 => by
    intro p hp z
    rw [codesTo] at hp
    split at hp
    · rcases List.mem_cons.mp hp with rfl | hp
      · exact codes_emb T _ z
      · exact codesTo_agree T k p hp z
    · exact codesTo_agree T k p hp z

/-- The store of an earlier trip is among the stores before trip `k`. -/
theorem mem_codesTo (T : CodeTiles F) (t : Fin k0_t2_loop.trips) : ∀ k, t.val < k → codePiece T t ∈ codesTo T k
  | 0, hk => absurd hk (Nat.not_lt_zero _)
  | k + 1, hk => by
    rw [codesTo]
    by_cases hkt : k < k0_t2_loop.trips
    · rw [dif_pos hkt]
      rcases Nat.lt_succ_iff_lt_or_eq.mp hk with hlt | he
      · exact List.mem_cons_of_mem _ (mem_codesTo T t k hlt)
      · have : t = ⟨k, hkt⟩ := Fin.ext he
        subst this
        exact List.mem_cons_self
    · rw [dif_neg hkt]; have := t.isLt; exact mem_codesTo T t k (by omega)

/-- Sixteen trips' stores read back as `codes`. -/
theorem read_codesTo (a : Memref sig .tc .vmem S1x2048x4x128 .fp8e4m3) (f : BufTy.Contents (Elt F) a.view.ty) (T : CodeTiles F) :
    a.view.read (Elt F) (a.view.writes (Elt F) f (codesTo T k0_t2_loop.trips)) = codes T := by
  funext y
  refine View.read_writes_apply_of_pieces a.view f (codes T) _ (codesTo_agree T _) y ?_
  have hy : (y 1).val < 2048 := (y 1).isLt
  have ht : (y 1).val / 128 < k0_t2_loop.trips := by rw [trips2]; omega
  refine ⟨_, mem_codesTo T ⟨(y 1).val / 128, ht⟩ _ ht, (Rect.mem_set_unit (inb := k0_off8_inb _)).mpr fun a => ?_⟩
  rw [k0_off8_eq]
  match a with
  | ⟨0, _⟩ => exact ⟨Nat.zero_le _, by have : (y 0).val < 1 := (y 0).isLt; show (y 0).val < 0 + 1; omega⟩
  | ⟨1, _⟩ => exact ⟨show 128 * ((y 1).val / 128) ≤ (y 1).val by omega, show (y 1).val < 128 * ((y 1).val / 128) + 128 by omega⟩
  | ⟨2, _⟩ => exact ⟨Nat.zero_le _, by have : (y 2).val < 4 := (y 2).isLt; show (y 2).val < 0 + 4; omega⟩
  | ⟨3, _⟩ => exact ⟨Nat.zero_le _, by have : (y 3).val < 128 := (y 3).isLt; show (y 3).val < 0 + 128; omega⟩

end Cert.Proof.Kernel

end
-- ==== Proof.BodyKernel.lean ====
/-
  The kernel body as one triple (`sound_kernel`): from its three input blocks it leaves the codes and scales of one
  sequence (`keyCodes`, `keyScales`, `valueCodes`, `valueScales`), functions of those blocks alone.
-/
module

public import proofs.«01_k».proof.Proof.ContentKernel
public import Idealize.ShloMosaic.Lib.Pipeline.ValueKit.Basic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## From the maxima to the scales -/

/-- The row number at every element. -/
abbrev rowIds : IVec S8x128 32 := iota .tc S8x128 32 [0] iota_S8x128_d0_w32

/-- The four heads' greatest absolute keys, in rows 0 to 3 and again in rows 4 to 7. -/
def keyAbs (a : Maxima F) : FVec F S8x128 .f32 := k0_pay130 a.2.2.2.1 rowIds (k0_pay128 a.1 a.2.1) (k0_pay129 a.2.2.1)
/-- Those divided by 448. -/
def keyQuot (a : Maxima F) : FVec F S8x128 .f32 := k0_pay131 a.2.2.2.1 rowIds (k0_pay128 a.1 a.2.1) (k0_pay129 a.2.2.1)
/-- The exponent field found by the search, but for its last bit. -/
def keyField (a : Maxima F) : IVec S8x128 32 :=
  k0_pay134 (keyQuot a) (k0_pay132 a.2.2.2.1 rowIds (k0_pay128 a.1 a.2.1) (k0_pay129 a.2.2.1)) k0_pay133
/-- The keys' scales, and -/
def keyScales (a : Maxima F) : FVec F S1x8x128 .f32 := k0_pay137 (keyAbs a) (keyQuot a) (keyField a) k0_pay135
/-- their inverses. -/
def keyInv (a : Maxima F) : FVec F S8x128 .f32 := k0_pay138 (keyAbs a) (keyQuot a) (keyField a) k0_pay135

/-- The four heads' greatest absolute values, likewise. -/
def valueAbs (a : Maxima F) : FVec F S8x128 .f32 :=
  k0_pay140 a.2.2.2.2.2.1 a.2.2.2.2.2.2.1 a.2.2.2.2.2.2.2 rowIds (k0_pay139 a.2.2.2.2.1 rowIds)
/-- Those divided by 448. -/
def valueQuot (a : Maxima F) : FVec F S8x128 .f32 :=
  k0_pay141 a.2.2.2.2.2.1 a.2.2.2.2.2.2.1 a.2.2.2.2.2.2.2 rowIds (k0_pay139 a.2.2.2.2.1 rowIds)
/-- The search's first comparison. -/
def valueFirst (a : Maxima F) : IVec S8x128 1 :=
  k0_pay143 a.2.2.2.2.2.1 a.2.2.2.2.2.2.1 a.2.2.2.2.2.2.2 rowIds (k0_pay139 a.2.2.2.2.1 rowIds)
/-- The exponent field found by the search, but for its last three bits. -/
def valueField (a : Maxima F) : IVec S8x128 32 := k0_pay145 (valueQuot a) k0_pay142 (valueFirst a) k0_pay144
/-- The search's sixth comparison. -/
def valueSixth (a : Maxima F) : IVec S8x128 1 := k0_pay146 (valueQuot a) k0_pay142 (valueFirst a) k0_pay144
/-- The values' scales, and -/
def valueScales (a : Maxima F) : FVec F S1x8x128 .f32 := k0_pay149 (valueAbs a) (valueQuot a) (valueField a) (valueSixth a) k0_pay147
/-- their inverses. -/
def valueInv (a : Maxima F) : FVec F S8x128 .f32 := k0_pay150 (valueAbs a) (valueQuot a) (valueField a) (valueSixth a) k0_pay147

/-! ## The second loop's tiles -/

/-- The keys' codes, tile by tile, from the inverse scales and the rows. -/
def keyCodesOf (v : FVec F S8x128 .f32) (Y : Vec F S8192x128 .f32) : CodeTiles F := fun t =>
  k0_pay23 v (View.ld Y (Rect.unit (s := S8192x128) (k0_off7 t) S512x128.size (k0_off7_inb t)))
/-- The values' codes, likewise. -/
def valueCodesOf (v : FVec F S8x128 .f32) (Y : Vec F S8192x128 .f32) : CodeTiles F := fun t =>
  k0_pay24 v (View.ld Y (Rect.unit (s := S8192x128) (k0_off7 t) S512x128.size (k0_off7_inb t)))

set_option maxHeartbeats 4000000 in
/-- One trip stores one tile of the keys' codes and one of the values'. -/
theorem tripL2 (c : Dev nD) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (v640 v785 : FVec F S8x128 .f32) (z : BitVec 32) (X8 : BufTy.Contents (Elt F) arg8.view.ty) (X9 : BufTy.Contents (Elt F) arg9.view.ty)
    (t : Fin k0_t2_loop.trips) :
    tripL_k0_t2 (F := F) Variants.none c none i arg1 harg1 arg2 harg2 arg3 harg3 arg4 harg4 arg5 harg5 arg6 harg6 arg7 harg7 arg8 harg8 arg9 harg9 arg10 harg10 v640 v785 z X8 X9 t
      = ([codePiece (keyCodesOf v640 (arg8.view.read (Elt F) X8)) t], [codePiece (valueCodesOf v785 (arg9.view.read (Elt F) X9)) t]) := by
  unfold tripL_k0_t2 trip_k0_t2
  rfl

/-- The second loop's stores are `codesTo`. -/
theorem pb2 (c : Dev nD) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (v640 v785 : FVec F S8x128 .f32) (z : BitVec 32) (X8 : BufTy.Contents (Elt F) arg8.view.ty) (X9 : BufTy.Contents (Elt F) arg9.view.ty) :
    ∀ k, k ≤ k0_t2_loop.trips → pb_k0_t2 (F := F) Variants.none c none i arg1 harg1 arg2 harg2 arg3 harg3 arg4 harg4 arg5 harg5 arg6 harg6 arg7 harg7 arg8 harg8 arg9 harg9 arg10 harg10 v640 v785 z X8 X9 k
      = (codesTo (keyCodesOf v640 (arg8.view.read (Elt F) X8)) k, codesTo (valueCodesOf v785 (arg9.view.read (Elt F) X9)) k)
  | 0, _ => rfl
  | k + 1, hk => by
    have h : k < k0_t2_loop.trips := hk
    have e := pb_k0_t2_succ (F := F) Variants.none c none i arg1 harg1 arg2 harg2 arg3 harg3 arg4 harg4 arg5 harg5 arg6 harg6 arg7 harg7 arg8 harg8 arg9 harg9 arg10 harg10 v640 v785 z X8 X9 ⟨k, h⟩
    rw [tripL2] at e
    refine e.trans ?_
    rw [pb2 c i arg1 harg1 arg2 harg2 arg3 harg3 arg4 harg4 arg5 harg5 arg6 harg6 arg7 harg7 arg8 harg8 arg9 harg9 arg10 harg10 v640 v785 z X8 X9 k (Nat.le_of_lt h)]
    rw [codesTo, codesTo, dif_pos h, dif_pos h]
    rfl

/-! ## What the body leaves -/

/-- The maxima the first loop ends with. -/
def maxima (i : grid0.Coords) (x1 : Vec F S5x2048 .i32) (x2 x3 : Vec F S1x2048x512 .bf16) : Maxima F :=
  maximaTo i lanes k0_pay25 (posAll x1) x2 x3 (k0_pay122 (F := F), k0_pay122 (F := F), k0_pay122 (F := F), k0_pay122 (F := F), k0_pay122 (F := F), k0_pay122 (F := F), k0_pay122 (F := F), k0_pay122 (F := F)) k0_t1_loop.trips
/-- The keys' codes of the block. -/
def keyCodes (i : grid0.Coords) (x1 : Vec F S5x2048 .i32) (x2 x3 : Vec F S1x2048x512 .bf16) : Vec F S1x2048x4x128 .fp8e4m3 :=
  codes (keyCodesOf (keyInv (maxima i x1 x2 x3)) (rows (keyTiles i (posAll x1) x2)))
/-- The values' codes of the block. -/
def valueCodes (i : grid0.Coords) (x1 : Vec F S5x2048 .i32) (x2 x3 : Vec F S1x2048x512 .bf16) : Vec F S1x2048x4x128 .fp8e4m3 :=
  codes (valueCodesOf (valueInv (maxima i x1 x2 x3)) (rows (valueTiles x3)))

/-- One whole-block store reads back as what it stores. -/
theorem read_one (a : Memref sig .tc .vmem S1x8x128 .f32) (f : BufTy.Contents (Elt F) a.view.ty) (w : Vec F S1x8x128 .f32) :
    a.view.read (Elt F) (a.view.writes (Elt F) f [⟨Rect.unit (s := S1x8x128) ![0, 0, 0] S1x8x128.size inb_S1x8x128_S1x8x128_0_0_0, w⟩]) = w := by
  rw [View.read_writes_eq_canon a.view f _ (View.cover_of_tiled _ S1x8x128.size (by rfl))]
  exact View.canon_cons_unit_lit _ w [] (by decide)

set_option maxHeartbeats 40000000 in
/-- The body at point `i`: inputs kept, outputs at the codes and scales, scratch buffers given back at some contents. -/
theorem sound_kernel (c : Dev nD) (E : Set ℕ) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (x1 : Vec F S5x2048 .i32) (x2 x3 : Vec F S1x2048x512 .bf16) (K : PUnit → sProp 𝕄) :
    iprop(owns (c : Thread nD τ) arg1 fullShare x1 ∗ owns (c : Thread nD τ) arg2 fullShare x2 ∗ owns (c : Thread nD τ) arg3 fullShare x3
      ∗ (∃ y, owns (c : Thread nD τ) arg4 fullShare y) ∗ (∃ y, owns (c : Thread nD τ) arg5 fullShare y)
      ∗ (∃ y, owns (c : Thread nD τ) arg6 fullShare y) ∗ (∃ y, owns (c : Thread nD τ) arg7 fullShare y)
      ∗ (∃ f, arg8.view.loc (c : Thread nD τ) ↦[arg8.view.set]{fullShare} f) ∗ (∃ f, arg9.view.loc (c : Thread nD τ) ↦[arg9.view.set]{fullShare} f)
      ∗ (∃ f, arg10.view.loc (c : Thread nD τ) ↦[arg10.view.set]{fullShare} f)
      ∗ (owns (c : Thread nD τ) arg1 fullShare x1 ∗ owns (c : Thread nD τ) arg2 fullShare x2 ∗ owns (c : Thread nD τ) arg3 fullShare x3
        ∗ owns (c : Thread nD τ) arg4 fullShare (keyCodes i x1 x2 x3) ∗ owns (c : Thread nD τ) arg5 fullShare (keyScales (maxima i x1 x2 x3))
        ∗ owns (c : Thread nD τ) arg6 fullShare (valueCodes i x1 x2 x3) ∗ owns (c : Thread nD τ) arg7 fullShare (valueScales (maxima i x1 x2 x3))
        ∗ (∃ f, arg8.view.loc (c : Thread nD τ) ↦[arg8.view.set]{fullShare} f) ∗ (∃ f, arg9.view.loc (c : Thread nD τ) ↦[arg9.view.set]{fullShare} f)
        ∗ (∃ f, arg10.view.loc (c : Thread nD τ) ↦[arg10.view.set]{fullShare} f) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10) K := by
  simp only [cc0__body_eq_skeleton]; unfold cc0__body_skel owns
  iintro ⟨⟨%f1, %h1, H1⟩, ⟨%f2, %h2, H2⟩, ⟨%f3, %h3, H3⟩, ⟨%y4, %f4, %h4, H4⟩, ⟨%y5, %f5, %h5, H5⟩, ⟨%y6, %f6, %h6, H6⟩, ⟨%y7, %f7, %h7, H7⟩, ⟨%f8, H8⟩, ⟨%f9, H9⟩, ⟨%f10, H10⟩, Hk⟩
  subst h1 h2 h3
  sl_exec
  sl_step
  have hX := read_posList arg10 arg10.view.junk (arg1.view.read (Elt F) f1)
  iapply Hk
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]
  · iexists _; isplitr; swap; · iexact H4
    ipureintro
    rw [pb2 c i arg1 harg1 arg2 harg2 arg3 harg3 arg4 harg4 arg5 harg5 arg6 harg6 arg7 harg7 arg8 harg8 arg9 harg9 arg10 harg10 _ _ _ _ _ _ (le_refl _)]
    refine (read_codesTo _ _ _).trans ?_
    unfold keyCodes maxima
    rw [← hX, ← read_tilesTo arg8 f8, ← keysTo_eq]
    rfl
  isplitl [H5]
  · iexists _; isplitr; swap; · iexact H5
    ipureintro
    refine (read_one _ _ _).trans ?_
    unfold maxima
    rw [← hX]
    rfl
  isplitl [H6]
  · iexists _; isplitr; swap; · iexact H6
    ipureintro
    rw [pb2 c i arg1 harg1 arg2 harg2 arg3 harg3 arg4 harg4 arg5 harg5 arg6 harg6 arg7 harg7 arg8 harg8 arg9 harg9 arg10 harg10 _ _ _ _ _ _ (le_refl _)]
    refine (read_codesTo _ _ _).trans ?_
    unfold valueCodes maxima
    rw [← hX, ← read_tilesTo arg9 f9, ← valuesTo_eq]
    rfl
  isplitl [H7]
  · iexists _; isplitr; swap; · iexact H7
    ipureintro
    refine (read_one _ _ _).trans ?_
    unfold maxima
    rw [← hX]
    rfl
  isplitl [H8]; · iexists _; iexact H8
  isplitl [H9]; · iexists _; iexact H9
  iexists _; iexact H10

end Cert.Proof.Kernel

end
-- ==== Proof.RunKernel.lean ====
/-
  The run of the whole program: the body's triple at every grid point, the launch, the host lines after the region; from it
  the frame claim (arguments unchanged, semaphores at zero).
-/
module

public import proofs.«01_k».proof.Proof.BodyKernel
public import Idealize.ShloMosaic.Lib.Claim

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: each array as the region finds it, each window's block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => keyCodes (grid0.coords t) (iblk m c 0 t) (iblk m c 1 t) (iblk m c 2 t)
    | ⟨4, _⟩ => keyScales (maxima (grid0.coords t) (iblk m c 0 t) (iblk m c 1 t) (iblk m c 2 t))
    | ⟨5, _⟩ => valueCodes (grid0.coords t) (iblk m c 0 t) (iblk m c 1 t) (iblk m c 2 t)
    | ⟨6, _⟩ => valueScales (maxima (grid0.coords t) (iblk m c 0 t) (iblk m c 1 t) (iblk m c 2 t))
  Φ _ := Pipeline.ΦA spec0 c
  q _ := fullShare
  owed _ := 0

/-- The arrays are the region's. -/
theorem A_eq (c : Dev nD) (w : Fin cfg0.W) : (dats m 0 c).A w = V m c (Pipeline.arrRef spec0 w) := by
  dsimp only [dats]

/-- The body leaves the positions' block as it was, -/
theorem after0_0 (c : Dev nD) (t : Fin cfg0.N) : (dats m 0 c).after 0 t = iblk m c 0 t := by dsimp only [dats]
/-- the keys' block, and -/
theorem after0_1 (c : Dev nD) (t : Fin cfg0.N) : (dats m 0 c).after 1 t = iblk m c 1 t := by dsimp only [dats]
/-- the values' block. -/
theorem after0_2 (c : Dev nD) (t : Fin cfg0.N) : (dats m 0 c).after 2 t = iblk m c 2 t := by dsimp only [dats]
/-- The keys' codes after the body, -/
theorem after0_3 (c : Dev nD) (t : Fin cfg0.N) : (dats m 0 c).after 3 t = keyCodes (grid0.coords t) (iblk m c 0 t) (iblk m c 1 t) (iblk m c 2 t) := by dsimp only [dats]
/-- the keys' scales, -/
theorem after0_4 (c : Dev nD) (t : Fin cfg0.N) : (dats m 0 c).after 4 t = keyScales (maxima (grid0.coords t) (iblk m c 0 t) (iblk m c 1 t) (iblk m c 2 t)) := by dsimp only [dats]
/-- the values' codes, -/
theorem after0_5 (c : Dev nD) (t : Fin cfg0.N) : (dats m 0 c).after 5 t = valueCodes (grid0.coords t) (iblk m c 0 t) (iblk m c 1 t) (iblk m c 2 t) := by dsimp only [dats]
/-- and the values' scales. -/
theorem after0_6 (c : Dev nD) (t : Fin cfg0.N) : (dats m 0 c).after 6 t = valueScales (maxima (grid0.coords t) (iblk m c 0 t) (iblk m c 1 t) (iblk m c 2 t)) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- The keys' buffer holds their block. -/
theorem before0_1 (c : Dev nD) (t : Fin cfg0.N) (d) : (dats m 0 c).before 1 t d = iblk m c 1 t :=
  before0_1_of m (dats m 0 c) (A_eq m c 1) (after0_1 m c) t d
/-- The values' buffer holds theirs. -/
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A whole scratch buffer at some contents is its memref's points-to at some contents. -/
theorem scratch_whole (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  show _ = (((c : Thread nD τ).loc b) ↦[(View.whole b : View sig .tc _ _ _).set]{fullShare} f : sProp 𝕄)
  rw [View.set_whole]

/-- The body at any point: the inputs hold their blocks, the three scratch buffers come out of the invariant and go back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  simp only [scratch_whole]
  iintro ⟨⟨⟨⟨%f8, H8⟩, ⟨%f9, H9⟩, ⟨%f10, H10⟩⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H8]; · iexists _; iexact H8
  isplitl [H9]; · iexists _; iexact H9
  isplitl [H10]; · iexists _; iexact H10
  iintro ⟨H0, H1, H2, H3, H4, H5, H6, ⟨%g8, H8⟩, ⟨%g9, H9⟩, ⟨%g10, H10⟩⟩
  isplitl [H8 H9 H10 Hg]
  · isplitl [H8 H9 H10]
    · isplitl [H8]; · iexists g8; iexact H8
      isplitl [H9]; · iexists g9; iexact H9
      iexists g10; iexact H10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's call of the body is the body. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every fair execution ends, each array of the pipeline at what the proof data says, the other buffers as the
    host lines after the region leave them, every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  θ_run_and (frame_of m ρ (dats m) (A_eq m) (run_main m ρ)) ((θ_run defs _ _).mono (fun _ h => h.2) (run_main_quiescent m ρ))

end Cert.Proof.Kernel

end
-- ==== Proof.LoopKernelIdeal.lean ====
/-
  The first counted loop of the kernel body: sixteen trips, each over 128 tokens. A trip reads its tokens' positions
  (one row of the position scratch), the keys and the values; rotates the keys; stores the rotated keys and the values,
  one head at a time, into every fourth row of two scratch buffers; and carries eight running maxima of absolute values
  (four heads of keys, four of values). This file states what a trip stores and yields (`keyPieces`, `valuePieces`,
  `yield`), proves one trip (`trip`), and gives the loop its invariant (`loopInv_k0_t1`).
-/
module

public import proofs.«01_k».proof.Defs
public import proofs.«01_k».proof.Proof.Gen.KernelIdeal.Frame
public import proofs.«01_k».proof.Proof.Gen.KernelIdeal.Loops
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eight running maxima: four heads of rotated keys, then four heads of values. -/
abbrev Maxima (F : FTy → Type) : Type :=
  FVec F S8x128 .f32 × FVec F S8x128 .f32 × FVec F S8x128 .f32 × FVec F S8x128 .f32 × FVec F S8x128 .f32 × FVec F S8x128 .f32 × FVec F S8x128 .f32 × FVec F S8x128 .f32

/-! ## What one trip loads -/

/-- The positions of trip `t`'s tokens, replicated over eight rows. -/
abbrev posTile (i : grid0.Coords) (X : Vec F S80x8x128 .i32) (t : Fin k0_t1_loop.trips) : Vec F S1x8x128 .i32 :=
  View.ld X (Rect.unit (s := S80x8x128) (k0_off1 i t) S1x8x128.size (k0_off1_inb i t))
/-- Head 0 of trip `t`'s tokens. -/
abbrev head0 (x : Vec F S1x2048x512 .bf16) (t : Fin k0_t1_loop.trips) : Vec F S1x128x128 .bf16 :=
  View.ld x (Rect.unit (s := S1x2048x512) (k0_off2 t) S1x128x128.size (k0_off2_inb t))
/-- Head 1 of trip `t`'s tokens. -/
abbrev head1 (x : Vec F S1x2048x512 .bf16) (t : Fin k0_t1_loop.trips) : Vec F S1x128x128 .bf16 :=
  View.ld x (Rect.unit (s := S1x2048x512) (k0_off4 t) S1x128x128.size (k0_off4_inb t))
/-- Head 2 of trip `t`'s tokens. -/
abbrev head2 (x : Vec F S1x2048x512 .bf16) (t : Fin k0_t1_loop.trips) : Vec F S1x128x128 .bf16 :=
  View.ld x (Rect.unit (s := S1x2048x512) (k0_off5 t) S1x128x128.size (k0_off5_inb t))
/-- Head 3 of trip `t`'s tokens. -/
abbrev head3 (x : Vec F S1x2048x512 .bf16) (t : Fin k0_t1_loop.trips) : Vec F S1x128x128 .bf16 :=
  View.ld x (Rect.unit (s := S1x2048x512) (k0_off6 t) S1x128x128.size (k0_off6_inb t))

/-- Every fourth row of trip `t`'s 512 scratch rows, from row `h`: head `h` of its 128 tokens. -/
abbrev headRows (t : Fin k0_t1_loop.trips) (h : Fin 4) : Rect S8192x128 :=
  ⟨(⟨k0_off3 t (BitVec.ofNat 32 h.val), S128x128.size, ![4, 1], (k0_off3_inb t h)⟩ : LoadRect S8192x128), spos_4_1⟩

/-! ## What one trip stores and yields -/

/-- The rotated keys trip `t` stores, head by head (the last store first). -/
def keyPieces (i : grid0.Coords) (v0 : IVec S128x128 32) (v11 : FVec F S128x128 .f32) (X : Vec F S80x8x128 .i32)
    (x : Vec F S1x2048x512 .bf16) (t : Fin k0_t1_loop.trips) : List (View.Piece (Elt F) S8192x128 .f32) :=
  [⟨headRows t 3, k0_pay123 (k0_pay22 (k0_pay2 v11 (posTile i X t)) (k0_pay3 v0 v11 (posTile i X t)) (head3 x t))⟩,
   ⟨headRows t 2, k0_pay17 (k0_pay2 v11 (posTile i X t)) (k0_pay3 v0 v11 (posTile i X t)) (head2 x t)⟩,
   ⟨headRows t 1, k0_pay11 (k0_pay2 v11 (posTile i X t)) (k0_pay3 v0 v11 (posTile i X t)) (head1 x t)⟩,
   ⟨headRows t 0, k0_pay5 v0 v11 (posTile i X t) (head0 x t)⟩]

/-- The values trip `t` stores, head by head (the last store first). -/
def valuePieces (x : Vec F S1x2048x512 .bf16) (t : Fin k0_t1_loop.trips) : List (View.Piece (Elt F) S8192x128 .f32) :=
  [⟨headRows t 3, k0_pay125 (head3 x t)⟩,
   ⟨headRows t 2, k0_pay19 (head2 x t)⟩,
   ⟨headRows t 1, k0_pay13 (head1 x t)⟩,
   ⟨headRows t 0, k0_pay7 (k0_pay6 (head0 x t))⟩]

/-- The maxima after trip `t`, from those before it. -/
def yield (i : grid0.Coords) (v0 : IVec S128x128 32) (v11 : FVec F S128x128 .f32) (X : Vec F S80x8x128 .i32)
    (x2 x3 : Vec F S1x2048x512 .bf16) (t : Fin k0_t1_loop.trips) (a : Maxima F) : Maxima F :=
  (k0_pay8 a.1 (k0_pay4 v0 v11 (posTile i X t) (head0 x2 t)),
   k0_pay14 a.2.1 (k0_pay2 v11 (posTile i X t)) (k0_pay3 v0 v11 (posTile i X t)) (head1 x2 t),
   k0_pay20 a.2.2.1 (k0_pay2 v11 (posTile i X t)) (k0_pay3 v0 v11 (posTile i X t)) (head2 x2 t),
   k0_pay126 a.2.2.2.1 (k0_pay22 (k0_pay2 v11 (posTile i X t)) (k0_pay3 v0 v11 (posTile i X t)) (head3 x2 t)),
   k0_pay9 a.2.2.2.2.1 (k0_pay6 (head0 x3 t)),
   k0_pay15 a.2.2.2.2.2.1 (head1 x3 t),
   k0_pay21 a.2.2.2.2.2.2.1 (head2 x3 t),
   k0_pay127 a.2.2.2.2.2.2.2 (head3 x3 t))

/-- One trip's resources: what it reads at its contents, what it writes at any. -/
abbrev Trip1 (c : Dev nD) (arg2 : Memref sig .tc .vmem S1x2048x512 .bf16) (arg3 : Memref sig .tc .vmem S1x2048x512 .bf16)
    (arg8 : Memref sig .tc .vmem S8192x128 .f32) (arg9 : Memref sig .tc .vmem S8192x128 .f32) (arg10 : Memref sig .tc .vmem S80x8x128 .i32)
    (X2 : BufTy.Contents (Elt F) arg2.view.ty) (X3 : BufTy.Contents (Elt F) arg3.view.ty) (X10 : BufTy.Contents (Elt F) arg10.view.ty)
    (f8 : BufTy.Contents (Elt F) arg8.view.ty) (f9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} X10)
    ∗ (arg8.view.loc (c : Thread nD τ) ↦[arg8.view.set]{fullShare} f8) ∗ (arg9.view.loc (c : Thread nD τ) ↦[arg9.view.set]{fullShare} f9))

set_option maxHeartbeats 4000000 in
/-- One trip at a symbolic `t`: it stores `keyPieces` and `valuePieces` and yields `yield`. -/
theorem trip1 (c : Dev nD) (E : Set ℕ) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (arg0 : BitVec 32) (v0 : IVec S128x128 32) (v11 : FVec F S128x128 .f32) (v482 : IVec S8x128 32)
    (X2 : BufTy.Contents (Elt F) arg2.view.ty) (X3 : BufTy.Contents (Elt F) arg3.view.ty) (X10 : BufTy.Contents (Elt F) arg10.view.ty)
    (f8 : BufTy.Contents (Elt F) arg8.view.ty) (f9 : BufTy.Contents (Elt F) arg9.view.ty) (t : Fin k0_t1_loop.trips) (a : Maxima F) :
    Trip1 (F := F) c arg2 arg3 arg8 arg9 arg10 X2 X3 X10 f8 f9
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg0 v0 v11 v482 t a)
          (fun r => iprop(Trip1 (F := F) c arg2 arg3 arg8 arg9 arg10 X2 X3 X10
            (arg8.view.writes (Elt F) f8 (keyPieces i v0 v11 (arg10.view.read (Elt F) X10) (arg2.view.read (Elt F) X2) t))
            (arg9.view.writes (Elt F) f9 (valuePieces (arg3.view.read (Elt F) X3) t))
            ∗ ⌜r = yield i v0 v11 (arg10.view.read (Elt F) X10) (arg2.view.read (Elt F) X2) (arg3.view.read (Elt F) X3) t a⌝)) := by
  have hk : t.val < 16 := Nat.lt_of_lt_of_le t.isLt k0_t1_abs.2.1
  obtain ⟨a0, a1, a2, a3, a4, a5, a6, a7⟩ := a
  unfold k0_t1_body
  iintro ⟨H2, H3, H10, H8, H9⟩
  sl_exec
  sl_step
  isplitl [H2 H3 H10 H8 H9]
  · isplitl [H2]; · iexact H2
    isplitl [H3]; · iexact H3
    isplitl [H10]; · iexact H10
    isplitl [H8]; · iexact H8
    iexact H9
  ipureintro
  rfl

/-! ## The loop -/

/-- The keys stored by the trips before `k`, the last first. -/
def keysTo (i : grid0.Coords) (v0 : IVec S128x128 32) (v11 : FVec F S128x128 .f32) (X : Vec F S80x8x128 .i32)
    (x : Vec F S1x2048x512 .bf16) : ℕ → List (View.Piece (Elt F) S8192x128 .f32)
  | 0 => []
  | k + 1 => if h : k < k0_t1_loop.trips then keyPieces i v0 v11 X x ⟨k, h⟩ ++ keysTo i v0 v11 X x k else keysTo i v0 v11 X x k

/-- The values stored by the trips before `k`, the last first. -/
def valuesTo (x : Vec F S1x2048x512 .bf16) : ℕ → List (View.Piece (Elt F) S8192x128 .f32)
  | 0 => []
  | k + 1 => if h : k < k0_t1_loop.trips then valuePieces x ⟨k, h⟩ ++ valuesTo x k else valuesTo x k

/-- The maxima before trip `k`. -/
def maximaTo (i : grid0.Coords) (v0 : IVec S128x128 32) (v11 : FVec F S128x128 .f32) (X : Vec F S80x8x128 .i32)
    (x2 x3 : Vec F S1x2048x512 .bf16) (init : Maxima F) : ℕ → Maxima F
  | 0 => init
  | k + 1 => if h : k < k0_t1_loop.trips then yield i v0 v11 X x2 x3 ⟨k, h⟩ (maximaTo i v0 v11 X x2 x3 init k)
      else maximaTo i v0 v11 X x2 x3 init k

/-- The stores into the keys' scratch after trip `t`: the trip's own, then those before. -/
theorem keysTo_succ (i : grid0.Coords) (v0 : IVec S128x128 32) (v11 : FVec F S128x128 .f32) (X : Vec F S80x8x128 .i32)
    (x : Vec F S1x2048x512 .bf16) (t : Fin k0_t1_loop.trips) :
    keysTo i v0 v11 X x (t.val + 1) = keyPieces i v0 v11 X x t ++ keysTo i v0 v11 X x t.val := by
  rw [keysTo]; exact dif_pos t.isLt
/-- The stores into the values' scratch after trip `t`: the trip's own, then those before. -/
theorem valuesTo_succ (x : Vec F S1x2048x512 .bf16) (t : Fin k0_t1_loop.trips) :
    valuesTo x (t.val + 1) = valuePieces x t ++ valuesTo x t.val := by
  rw [valuesTo]; exact dif_pos t.isLt
/-- The maxima after trip `t` are those the trip makes of the maxima before it. -/
theorem maximaTo_succ (i : grid0.Coords) (v0 : IVec S128x128 32) (v11 : FVec F S128x128 .f32) (X : Vec F S80x8x128 .i32)
    (x2 x3 : Vec F S1x2048x512 .bf16) (init : Maxima F) (t : Fin k0_t1_loop.trips) :
    maximaTo i v0 v11 X x2 x3 init (t.val + 1) = yield i v0 v11 X x2 x3 t (maximaTo i v0 v11 X x2 x3 init t.val) := by
  rw [maximaTo]; exact dif_pos t.isLt

/-- The invariant before trip `k`: keys, values and positions at their contents, the two scratches at the pieces of the
    trips before `k` over what they held at entry, the carried maxima those of the trips before `k`. -/
abbrev inv1 (c : Dev nD) (i : grid0.Coords) (arg2 : Memref sig .tc .vmem S1x2048x512 .bf16) (arg3 : Memref sig .tc .vmem S1x2048x512 .bf16)
    (arg8 : Memref sig .tc .vmem S8192x128 .f32) (arg9 : Memref sig .tc .vmem S8192x128 .f32) (arg10 : Memref sig .tc .vmem S80x8x128 .i32)
    (v0 : IVec S128x128 32) (v11 : FVec F S128x128 .f32) (init : Maxima F)
    (X2 : BufTy.Contents (Elt F) arg2.view.ty) (X3 : BufTy.Contents (Elt F) arg3.view.ty) (X10 : BufTy.Contents (Elt F) arg10.view.ty)
    (G8 : BufTy.Contents (Elt F) arg8.view.ty) (G9 : BufTy.Contents (Elt F) arg9.view.ty) (k : ℕ) (acc : Maxima F) : sProp 𝕄 :=
  iprop((arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} X10)
    ∗ (∃ f, (arg8.view.loc (c : Thread nD τ) ↦[arg8.view.set]{fullShare} f)
        ∗ ⌜f = arg8.view.writes (Elt F) G8 (keysTo i v0 v11 (arg10.view.read (Elt F) X10) (arg2.view.read (Elt F) X2) k)⌝)
    ∗ (∃ f, (arg9.view.loc (c : Thread nD τ) ↦[arg9.view.set]{fullShare} f)
        ∗ ⌜f = arg9.view.writes (Elt F) G9 (valuesTo (arg3.view.read (Elt F) X3) k)⌝)
    ∗ ⌜acc = maximaTo i v0 v11 (arg10.view.read (Elt F) X10) (arg2.view.read (Elt F) X2) (arg3.view.read (Elt F) X3) init k⌝)

set_option warn.classDefReducibility false in
/-- The loop by its invariant. -/
@[sl_loop] def loopInv_k0_t1 (c : Dev nD) (E : Set ℕ) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (arg0 : BitVec 32) (v0 : IVec S128x128 32) (v11 : FVec F S128x128 .f32) (v482 : IVec S8x128 32) (init : Maxima F)
    (X2 : BufTy.Contents (Elt F) arg2.view.ty) (X3 : BufTy.Contents (Elt F) arg3.view.ty) (X10 : BufTy.Contents (Elt F) arg10.view.ty)
    (G8 : BufTy.Contents (Elt F) arg8.view.ty) (G9 : BufTy.Contents (Elt F) arg9.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg0 v0 v11 v482 init where
  inv := inv1 (F := F) c i arg2 arg3 arg8 arg9 arg10 v0 v11 init X2 X3 X10 G8 G9
  step k acc := by
    iintro ⟨H2, H3, H10, ⟨%f8, H8, %h8⟩, ⟨%f9, H9, %h9⟩, %ha⟩
    iapply (wp_wand_r Idealize.ShloMosaic.frame (wpE (defs₀ (F := F)) Variants.none (c : Thread nD τ) none) E)
    isplitl [H2 H3 H10 H8 H9]
    · iapply (trip1 (F := F) c E i arg1 harg1 arg2 harg2 arg3 harg3 arg4 harg4 arg5 harg5 arg6 harg6 arg7 harg7 arg8 harg8 arg9 harg9 arg10 harg10 arg0 v0 v11 v482 X2 X3 X10 f8 f9 k acc)
      isplitl [H2]; · iexact H2
      isplitl [H3]; · iexact H3
      isplitl [H10]; · iexact H10
      isplitl [H8]; · iexact H8
      iexact H9
    · iintro %r ⟨⟨H2, H3, H10, H8, H9⟩, %hr⟩
      isplitl [H2]; · iexact H2
      isplitl [H3]; · iexact H3
      isplitl [H10]; · iexact H10
      isplitl [H8]
      · iexists _; isplitl [H8]; · iexact H8
        ipureintro; rw [keysTo_succ, View.writes_append, ← h8]
      isplitl [H9]
      · iexists _; isplitl [H9]; · iexact H9
        ipureintro; rw [valuesTo_succ, View.writes_append, ← h9]
      ipureintro; rw [maximaTo_succ, ← ha]; exact hr

end Cert.Proof.KernelIdeal

end
-- ==== Proof.ContentKernelIdeal.lean ====
/-
  What the kernel body leaves in its scratch buffers and output blocks, as functions of its input blocks alone, and the
  proofs that the run's lists of writes read back as those functions. The positions are spread over 80 rows
  (`posAll`), the rotated keys and the values over 8192 rows (`rows`), four rows per token, and the codes over the output
  blocks (`codes`), 128 tokens per trip of the second loop.
-/
module

public import proofs.«01_k».proof.Proof.LoopKernelIdeal
public import Idealize.ShloMosaic.Lib.ValueIdxCore

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx

variable {F : FTy → Type} [FloatOps F]

/-- The first loop makes sixteen trips. -/
theorem trips1 : k0_t1_loop.trips = 16 := by decide +kernel
/-- The second loop makes sixteen trips. -/
theorem trips2 : k0_t2_loop.trips = 16 := by decide +kernel

/-! ## The positions scratch -/

/-- Row `k` lies in the positions scratch. -/
theorem posInb (k : Fin 80) : ∀ a, (![k.val, 0, 0] : Fin 3 → ℕ) a + S1x8x128.size a ≤ S80x8x128.size a := by
  intro a; have := k.isLt
  match a with
  | ⟨0, _⟩ => show k.val + 1 ≤ 80; omega
  | ⟨1, _⟩ => show 0 + 8 ≤ 8; omega
  | ⟨2, _⟩ => show 0 + 128 ≤ 128; omega
/-- The 128 positions that row `k` is filled from lie in the positions' block. -/
theorem rowInb (k : Fin 80) : ∀ a, (![k.val % 5, k.val / 5 * 128] : Fin 2 → ℕ) a + S1x128.size a ≤ S5x2048.size a := by
  intro a; have := k.isLt
  match a with
  | ⟨0, _⟩ => show k.val % 5 + 1 ≤ 5; omega
  | ⟨1, _⟩ => show k.val / 5 * 128 + 128 ≤ 2048; omega

/-- Row `k` of the positions scratch: 128 positions of sequence `k % 5`, from token `128 (k / 5)`, eight times. -/
abbrev posRow (x : Vec F S5x2048 .i32) (k : Fin 80) : Vec F S1x8x128 .i32 :=
  k0_pay26 (View.ld x (Rect.unit (s := S5x2048) ![k.val % 5, k.val / 5 * 128] S1x128.size (rowInb k)))

/-- The store of row `k`. -/
abbrev posPiece (x : Vec F S5x2048 .i32) (k : Fin 80) : View.Piece (Elt F) S80x8x128 .i32 :=
  ⟨Rect.unit (s := S80x8x128) ![k.val, 0, 0] S1x8x128.size (posInb k), posRow x k⟩

/-- The 80 stores, the last first. -/
def posList (x : Vec F S5x2048 .i32) : List (View.Piece (Elt F) S80x8x128 .i32) :=
  [posPiece x 79, posPiece x 78, posPiece x 77, posPiece x 76, posPiece x 75, posPiece x 74, posPiece x 73, posPiece x 72, posPiece x 71, posPiece x 70, posPiece x 69, posPiece x 68, posPiece x 67, posPiece x 66, posPiece x 65, posPiece x 64, posPiece x 63, posPiece x 62, posPiece x 61, posPiece x 60, posPiece x 59, posPiece x 58, posPiece x 57, posPiece x 56, posPiece x 55, posPiece x 54, posPiece x 53, posPiece x 52, posPiece x 51, posPiece x 50, posPiece x 49, posPiece x 48, posPiece x 47, posPiece x 46, posPiece x 45, posPiece x 44, posPiece x 43, posPiece x 42, posPiece x 41, posPiece x 40, posPiece x 39, posPiece x 38, posPiece x 37, posPiece x 36, posPiece x 35, posPiece x 34, posPiece x 33, posPiece x 32, posPiece x 31, posPiece x 30, posPiece x 29, posPiece x 28, posPiece x 27, posPiece x 26, posPiece x 25, posPiece x 24, posPiece x 23, posPiece x 22, posPiece x 21, posPiece x 20, posPiece x 19, posPiece x 18, posPiece x 17, posPiece x 16, posPiece x 15, posPiece x 14, posPiece x 13, posPiece x 12, posPiece x 11, posPiece x 10, posPiece x 9, posPiece x 8, posPiece x 7, posPiece x 6, posPiece x 5, posPiece x 4, posPiece x 3, posPiece x 2, posPiece x 1, posPiece x 0]

/-- What the positions scratch holds after them. -/
def posAll (x : Vec F S5x2048 .i32) : Vec F S80x8x128 .i32 := fun j => posRow x (j 0) (ix3 0 (j 1) (j 2))

/-- The list of stores, written out, is the list of rows from 79 down to 0. -/
theorem posList_eq (x : Vec F S5x2048 .i32) : posList x = List.ofFn (fun k : Fin 80 => posPiece x k.rev) := rfl

/-- The 80 stores read back as `posAll`. -/
theorem read_posList (a : Memref sig .tc .vmem S80x8x128 .i32) (f : BufTy.Contents (Elt F) a.view.ty) (x : Vec F S5x2048 .i32) :
    a.view.read (Elt F) (a.view.writes (Elt F) f (posList x)) = posAll x := by
  funext y
  refine View.read_writes_apply_of_pieces a.view f (posAll x) (posList x) (fun p hp z => ?_) y ?_
  · rw [posList_eq, List.mem_ofFn] at hp
    obtain ⟨k, rfl⟩ := hp
    have h0 : (z 0).val < 1 := (z 0).isLt
    have e0 : ((Rect.unit (s := S80x8x128) ![k.rev.val, 0, 0] S1x8x128.size (posInb k.rev)).emb z) 0 = k.rev := by
      apply Fin.ext; show k.rev.val + 1 * (z 0).val = k.rev.val; omega
    show posRow x k.rev z = posRow x (((Rect.unit (s := S80x8x128) ![k.rev.val, 0, 0] S1x8x128.size (posInb k.rev)).emb z) 0) _
    rw [e0]
    congr 1
    funext d
    match d with
    | ⟨0, _⟩ => apply Fin.ext; show (z 0).val = 0; omega
    | ⟨1, _⟩ => apply Fin.ext; show (z 1).val = 0 + 1 * (z 1).val; omega
    | ⟨2, _⟩ => apply Fin.ext; show (z 2).val = 0 + 1 * (z 2).val; omega
  · refine ⟨posPiece x (y 0), ?_, (Rect.mem_set_unit (inb := posInb (y 0))).mpr fun a => ?_⟩
    · rw [posList_eq, List.mem_ofFn]; exact ⟨Fin.rev (n := 80) (y 0), congrArg (posPiece x) (Fin.rev_rev (n := 80) (y 0))⟩
    · match a with
      | ⟨0, _⟩ => exact ⟨le_refl _, Nat.lt_succ_self _⟩
      | ⟨1, _⟩ => exact ⟨Nat.zero_le _, by have := (y 1).isLt; show (y 1).val < 0 + 8; rw [Nat.zero_add]; exact this⟩
      | ⟨2, _⟩ => exact ⟨Nat.zero_le _, by have := (y 2).isLt; show (y 2).val < 0 + 128; rw [Nat.zero_add]; exact this⟩

/-! ## The two scratch buffers of rows -/

/-- A tile of 128 tokens by 128 lanes per trip and head. -/
abbrev Tiles (F : FTy → Type) : Type := Fin k0_t1_loop.trips → Fin 4 → Vec F S128x128 .f32

/-- One trip's four stores of tiles, the last first. -/
def tilePieces (T : Tiles F) (t : Fin k0_t1_loop.trips) : List (View.Piece (Elt F) S8192x128 .f32) :=
  [⟨headRows t 3, T t 3⟩, ⟨headRows t 2, T t 2⟩, ⟨headRows t 1, T t 1⟩, ⟨headRows t 0, T t 0⟩]

/-- The stores of the trips before `k`, the last first. -/
def tilesTo (T : Tiles F) : ℕ → List (View.Piece (Elt F) S8192x128 .f32)
  | 0 => []
  | k + 1 => if h : k < k0_t1_loop.trips then tilePieces T ⟨k, h⟩ ++ tilesTo T k else tilesTo T k

/-- The rows they leave: row `512 t + 4 s + h` holds token `s` of trip `t`'s tile of head `h`. -/
def rows (T : Tiles F) : Vec F S8192x128 .f32 := fun j =>
  T ⟨(j 0).val / 512, by rw [trips1]; have := idx2_lt0 j; omega⟩ ⟨(j 0).val % 4, by omega⟩
    (ix2 ⟨(j 0).val % 512 / 4, by omega⟩ (j 1))

/-- Row `z` of head `h`'s store in trip `t` is row `512 t + h + 4 z` of the scratch. -/
theorem headRows_emb0 (t : Fin k0_t1_loop.trips) (h : Fin 4) (z : (headRows t h).shape.Idx) :
    (((headRows t h).emb z) 0).val = 512 * t.val + h.val + 4 * (z 0).val := by
  show k0_off3 t (BitVec.ofNat 32 h.val) 0 + 4 * (z 0).val = _
  rw [k0_off3_eq]; rfl
/-- Its lanes are the scratch's lanes. -/
theorem headRows_emb1 (t : Fin k0_t1_loop.trips) (h : Fin 4) (z : (headRows t h).shape.Idx) :
    (((headRows t h).emb z) 1).val = (z 1).val := by
  show k0_off3 t (BitVec.ofNat 32 h.val) 1 + 1 * (z 1).val = _
  rw [k0_off3_eq]; show 0 + 1 * (z 1).val = (z 1).val; omega

/-- A tile stored agrees with the rows. -/
theorem rows_emb (T : Tiles F) (t : Fin k0_t1_loop.trips) (h : Fin 4) (z : (headRows t h).shape.Idx) :
    T t h z = rows T ((headRows t h).emb z) := by
  have e0 := headRows_emb0 t h z
  have e1 := headRows_emb1 t h z
  have hz0 : (z 0).val < 128 := (z 0).isLt
  have hh := h.isLt
  unfold rows
  have a1 : (⟨(((headRows t h).emb z) 0).val / 512, by rw [trips1]; have := idx2_lt0 ((headRows t h).emb z); omega⟩ : Fin k0_t1_loop.trips) = t :=
    Fin.ext (by show (((headRows t h).emb z) 0).val / 512 = t.val; rw [e0]; omega)
  have a2 : (⟨(((headRows t h).emb z) 0).val % 4, by omega⟩ : Fin 4) = h :=
    Fin.ext (by show (((headRows t h).emb z) 0).val % 4 = h.val; rw [e0]; omega)
  rw [a1, a2]
  congr 1
  funext d
  match d with
  | ⟨0, _⟩ => apply Fin.ext; show (z 0).val = (((headRows t h).emb z) 0).val % 512 / 4; rw [e0]; omega
  | ⟨1, _⟩ => apply Fin.ext; exact e1.symm

/-- Every store before trip `k` agrees with the rows. -/
theorem tilesTo_agree (T : Tiles F) : ∀ k, ∀ p ∈ tilesTo T k, ∀ z : p.1.shape.Idx, p.2 z = rows T (p.1.emb z)
  | 0 => by intro p hp; exact absurd hp List.not_mem_nil
  | k + 1 => by
    intro p hp z
    rw [tilesTo] at hp
    split at hp
    · rcases List.mem_append.mp hp with hp | hp
      · simp only [tilePieces, List.mem_cons, List.not_mem_nil, or_false] at hp
        rcases hp with rfl | rfl | rfl | rfl
        · exact rows_emb T _ 3 z
        · exact rows_emb T _ 2 z
        · exact rows_emb T _ 1 z
        · exact rows_emb T _ 0 z
      · exact tilesTo_agree T k p hp z
    · exact tilesTo_agree T k p hp z

/-- Head `h`'s store of an earlier trip is among the stores before trip `k`. -/
theorem mem_tilesTo (T : Tiles F) (t : Fin k0_t1_loop.trips) (h : Fin 4) :
    ∀ k, t.val < k → (⟨headRows t h, T t h⟩ : View.Piece (Elt F) S8192x128 .f32) ∈ tilesTo T k
  | 0, hk => absurd hk (Nat.not_lt_zero _)
  | k + 1, hk => by
    rw [tilesTo]
    by_cases hkt : k < k0_t1_loop.trips
    · rw [dif_pos hkt]
      rcases Nat.lt_succ_iff_lt_or_eq.mp hk with hlt | he
      · exact List.mem_append_right _ (mem_tilesTo T t h k hlt)
      · have : t = ⟨k, hkt⟩ := Fin.ext he
        subst this
        refine List.mem_append_left _ ?_
        simp only [tilePieces, List.mem_cons, List.not_mem_nil, or_false]
        match h with
        | ⟨0, _⟩ => exact .inr (.inr (.inr rfl))
        | ⟨1, _⟩ => exact .inr (.inr (.inl rfl))
        | ⟨2, _⟩ => exact .inr (.inl rfl)
        | ⟨3, _⟩ => exact .inl rfl
    · rw [dif_neg hkt]; have := t.isLt; exact mem_tilesTo T t h k (by omega)

/-- Sixteen trips' stores read back as `rows`. -/
theorem read_tilesTo (a : Memref sig .tc .vmem S8192x128 .f32) (f : BufTy.Contents (Elt F) a.view.ty) (T : Tiles F) :
    a.view.read (Elt F) (a.view.writes (Elt F) f (tilesTo T k0_t1_loop.trips)) = rows T := by
  funext y
  refine View.read_writes_apply_of_pieces a.view f (rows T) _ (tilesTo_agree T _) y ?_
  have hy : (y 0).val < 8192 := idx2_lt0 y
  have hy1 : (y 1).val < 128 := idx2_lt1 y
  have ht : (y 0).val / 512 < k0_t1_loop.trips := by rw [trips1]; omega
  refine ⟨_, mem_tilesTo T ⟨(y 0).val / 512, ht⟩ ⟨(y 0).val % 4, by omega⟩ _ ht, ?_⟩
  refine (headRows _ _).mem_set.mpr fun a => ?_
  match a with
  | ⟨0, _⟩ =>
    refine ⟨(y 0).val % 512 / 4, show (y 0).val % 512 / 4 < 128 by omega, ?_⟩
    show (y 0).val = k0_off3 ⟨(y 0).val / 512, ht⟩ (BitVec.ofNat 32 ((⟨(y 0).val % 4, by omega⟩ : Fin 4)).val) 0 + 4 * ((y 0).val % 512 / 4)
    rw [k0_off3_eq]
    show (y 0).val = 512 * ((y 0).val / 512) + (y 0).val % 4 + 4 * ((y 0).val % 512 / 4)
    omega
  | ⟨1, _⟩ =>
    refine ⟨(y 1).val, hy1, ?_⟩
    show (y 1).val = k0_off3 ⟨(y 0).val / 512, ht⟩ (BitVec.ofNat 32 ((⟨(y 0).val % 4, by omega⟩ : Fin 4)).val) 1 + 1 * (y 1).val
    rw [k0_off3_eq]
    show (y 1).val = 0 + 1 * (y 1).val
    omega

/-- The lane number at every element. -/
abbrev lanes : IVec S128x128 32 := iota .tc S128x128 32 [1] iota_S128x128_d1_w32

/-- The rotated keys, tile by tile. -/
def keyTiles (i : grid0.Coords) (X : Vec F S80x8x128 .i32) (x : Vec F S1x2048x512 .bf16) : Tiles F := fun t =>
  ![k0_pay5 lanes k0_pay25 (posTile i X t) (head0 x t),
    k0_pay11 (k0_pay2 k0_pay25 (posTile i X t)) (k0_pay3 lanes k0_pay25 (posTile i X t)) (head1 x t),
    k0_pay17 (k0_pay2 k0_pay25 (posTile i X t)) (k0_pay3 lanes k0_pay25 (posTile i X t)) (head2 x t),
    k0_pay123 (k0_pay22 (k0_pay2 k0_pay25 (posTile i X t)) (k0_pay3 lanes k0_pay25 (posTile i X t)) (head3 x t))]

/-- The values, tile by tile. -/
def valueTiles (x : Vec F S1x2048x512 .bf16) : Tiles F := fun t =>
  ![k0_pay7 (k0_pay6 (head0 x t)), k0_pay13 (head1 x t), k0_pay19 (head2 x t), k0_pay125 (head3 x t)]

/-- The stores into the keys' scratch are those of the key tiles. -/
theorem keysTo_eq (i : grid0.Coords) (X : Vec F S80x8x128 .i32) (x : Vec F S1x2048x512 .bf16) :
    ∀ k, keysTo i lanes k0_pay25 X x k = tilesTo (keyTiles i X x) k
  | 0 => rfl
  | k + 1 => by
    rw [keysTo, tilesTo, keysTo_eq i X x k]; rfl
/-- The stores into the values' scratch are those of the value tiles. -/
theorem valuesTo_eq (x : Vec F S1x2048x512 .bf16) : ∀ k, valuesTo x k = tilesTo (valueTiles x) k
  | 0 => rfl
  | k + 1 => by
    rw [valuesTo, tilesTo, valuesTo_eq x k]; rfl

/-! ## The codes -/

/-- A tile of 128 tokens' codes per trip of the second loop. -/
abbrev CodeTiles (F : FTy → Type) : Type := Fin k0_t2_loop.trips → Vec F S1x128x4x128 .fp8e4m3

/-- The store of trip `t`. -/
abbrev codePiece (T : CodeTiles F) (t : Fin k0_t2_loop.trips) : View.Piece (Elt F) S1x2048x4x128 .fp8e4m3 :=
  ⟨Rect.unit (s := S1x2048x4x128) (k0_off8 t) S1x128x4x128.size (k0_off8_inb t), T t⟩

/-- The stores of the trips before `k`, the last first. -/
def codesTo (T : CodeTiles F) : ℕ → List (View.Piece (Elt F) S1x2048x4x128 .fp8e4m3)
  | 0 => []
  | k + 1 => if h : k < k0_t2_loop.trips then codePiece T ⟨k, h⟩ :: codesTo T k else codesTo T k

/-- The block they leave: token `128 t + s` holds row `s` of trip `t`'s tile. -/
def codes (T : CodeTiles F) : Vec F S1x2048x4x128 .fp8e4m3 := fun j =>
  T ⟨(j 1).val / 128, by rw [trips2]; have : (j 1).val < 2048 := (j 1).isLt; omega⟩
    (ix4 0 ⟨(j 1).val % 128, by omega⟩ (j 2) (j 3))

/-- A tile of codes agrees with the block where it is stored. -/
theorem codes_emb (T : CodeTiles F) (t : Fin k0_t2_loop.trips) (z : (codePiece T t).1.shape.Idx) :
    T t z = codes T ((codePiece T t).1.emb z) := by
  have hz0 : (z 0).val < 1 := (z 0).isLt
  have hz1 : (z 1).val < 128 := (z 1).isLt
  have e (d : Fin 4) : (((codePiece T t).1.emb z) d).val = (![0, 128 * t.val, 0, 0] : Fin 4 → ℕ) d + 1 * (z d).val := by
    show k0_off8 t d + 1 * (z d).val = _
    rw [k0_off8_eq]
  have e1 : (((codePiece T t).1.emb z) 1).val = 128 * t.val + 1 * (z 1).val := e 1
  unfold codes
  have a1 : (⟨(((codePiece T t).1.emb z) 1).val / 128, by rw [trips2]; have : (((codePiece T t).1.emb z) 1).val < 2048 := (((codePiece T t).1.emb z) 1).isLt; omega⟩ : Fin k0_t2_loop.trips) = t :=
    Fin.ext (by show (((codePiece T t).1.emb z) 1).val / 128 = t.val; rw [e1]; omega)
  rw [a1]
  congr 1
  funext d
  match d with
  | ⟨0, _⟩ => apply Fin.ext; show (z 0).val = 0; omega
  | ⟨1, _⟩ => apply Fin.ext; show (z 1).val = (((codePiece T t).1.emb z) 1).val % 128; rw [e1]; omega
  | ⟨2, _⟩ => apply Fin.ext; refine Eq.trans ?_ (e 2).symm; show (z 2).val = 0 + 1 * (z 2).val; omega
  | ⟨3, _⟩ => apply Fin.ext; refine Eq.trans ?_ (e 3).symm; show (z 3).val = 0 + 1 * (z 3).val; omega

/-- Every store of codes before trip `k` agrees with the block. -/
theorem codesTo_agree (T : CodeTiles F) : ∀ k, ∀ p ∈ codesTo T k, ∀ z : p.1.shape.Idx, p.2 z = codes T (p.1.emb z)
  | 0 => by intro p hp; exact absurd hp List.not_mem_nil
  | k + 1 => by
    intro p hp z
    rw [codesTo] at hp
    split at hp
    · rcases List.mem_cons.mp hp with rfl | hp
      · exact codes_emb T _ z
      · exact codesTo_agree T k p hp z
    · exact codesTo_agree T k p hp z

/-- The store of an earlier trip is among the stores before trip `k`. -/
theorem mem_codesTo (T : CodeTiles F) (t : Fin k0_t2_loop.trips) : ∀ k, t.val < k → codePiece T t ∈ codesTo T k
  | 0, hk => absurd hk (Nat.not_lt_zero _)
  | k + 1, hk => by
    rw [codesTo]
    by_cases hkt : k < k0_t2_loop.trips
    · rw [dif_pos hkt]
      rcases Nat.lt_succ_iff_lt_or_eq.mp hk with hlt | he
      · exact List.mem_cons_of_mem _ (mem_codesTo T t k hlt)
      · have : t = ⟨k, hkt⟩ := Fin.ext he
        subst this
        exact List.mem_cons_self
    · rw [dif_neg hkt]; have := t.isLt; exact mem_codesTo T t k (by omega)

/-- Sixteen trips' stores read back as `codes`. -/
theorem read_codesTo (a : Memref sig .tc .vmem S1x2048x4x128 .fp8e4m3) (f : BufTy.Contents (Elt F) a.view.ty) (T : CodeTiles F) :
    a.view.read (Elt F) (a.view.writes (Elt F) f (codesTo T k0_t2_loop.trips)) = codes T := by
  funext y
  refine View.read_writes_apply_of_pieces a.view f (codes T) _ (codesTo_agree T _) y ?_
  have hy : (y 1).val < 2048 := (y 1).isLt
  have ht : (y 1).val / 128 < k0_t2_loop.trips := by rw [trips2]; omega
  refine ⟨_, mem_codesTo T ⟨(y 1).val / 128, ht⟩ _ ht, (Rect.mem_set_unit (inb := k0_off8_inb _)).mpr fun a => ?_⟩
  rw [k0_off8_eq]
  match a with
  | ⟨0, _⟩ => exact ⟨Nat.zero_le _, by have : (y 0).val < 1 := (y 0).isLt; show (y 0).val < 0 + 1; omega⟩
  | ⟨1, _⟩ => exact ⟨show 128 * ((y 1).val / 128) ≤ (y 1).val by omega, show (y 1).val < 128 * ((y 1).val / 128) + 128 by omega⟩
  | ⟨2, _⟩ => exact ⟨Nat.zero_le _, by have : (y 2).val < 4 := (y 2).isLt; show (y 2).val < 0 + 4; omega⟩
  | ⟨3, _⟩ => exact ⟨Nat.zero_le _, by have : (y 3).val < 128 := (y 3).isLt; show (y 3).val < 0 + 128; omega⟩

end Cert.Proof.KernelIdeal

end
-- ==== Proof.BodyKernelIdeal.lean ====
/-
  The kernel body as one triple (`sound_kernel`): from its three input blocks it leaves the codes and scales of one
  sequence (`keyCodes`, `keyScales`, `valueCodes`, `valueScales`), functions of those blocks alone.
-/
module

public import proofs.«01_k».proof.Proof.ContentKernelIdeal
public import Idealize.ShloMosaic.Lib.Pipeline.ValueKit.Basic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## From the maxima to the scales -/

/-- The row number at every element. -/
abbrev rowIds : IVec S8x128 32 := iota .tc S8x128 32 [0] iota_S8x128_d0_w32

/-- The four heads' greatest absolute keys, in rows 0 to 3 and again in rows 4 to 7. -/
def keyAbs (a : Maxima F) : FVec F S8x128 .f32 := k0_pay130 a.2.2.2.1 rowIds (k0_pay128 a.1 a.2.1) (k0_pay129 a.2.2.1)
/-- Those divided by 448. -/
def keyQuot (a : Maxima F) : FVec F S8x128 .f32 := k0_pay131 a.2.2.2.1 rowIds (k0_pay128 a.1 a.2.1) (k0_pay129 a.2.2.1)
/-- The exponent field found by the search, but for its last bit. -/
def keyField (a : Maxima F) : IVec S8x128 32 :=
  k0_pay134 (keyQuot a) (k0_pay132 a.2.2.2.1 rowIds (k0_pay128 a.1 a.2.1) (k0_pay129 a.2.2.1)) k0_pay133
/-- The keys' scales, and -/
def keyScales (a : Maxima F) : FVec F S1x8x128 .f32 := k0_pay137 (keyAbs a) (keyQuot a) (keyField a) k0_pay135
/-- their inverses. -/
def keyInv (a : Maxima F) : FVec F S8x128 .f32 := k0_pay138 (keyAbs a) (keyQuot a) (keyField a) k0_pay135

/-- The four heads' greatest absolute values, likewise. -/
def valueAbs (a : Maxima F) : FVec F S8x128 .f32 :=
  k0_pay140 a.2.2.2.2.2.1 a.2.2.2.2.2.2.1 a.2.2.2.2.2.2.2 rowIds (k0_pay139 a.2.2.2.2.1 rowIds)
/-- Those divided by 448. -/
def valueQuot (a : Maxima F) : FVec F S8x128 .f32 :=
  k0_pay141 a.2.2.2.2.2.1 a.2.2.2.2.2.2.1 a.2.2.2.2.2.2.2 rowIds (k0_pay139 a.2.2.2.2.1 rowIds)
/-- The search's first comparison. -/
def valueFirst (a : Maxima F) : IVec S8x128 1 :=
  k0_pay143 a.2.2.2.2.2.1 a.2.2.2.2.2.2.1 a.2.2.2.2.2.2.2 rowIds (k0_pay139 a.2.2.2.2.1 rowIds)
/-- The exponent field found by the search, but for its last three bits. -/
def valueField (a : Maxima F) : IVec S8x128 32 := k0_pay145 (valueQuot a) k0_pay142 (valueFirst a) k0_pay144
/-- The search's sixth comparison. -/
def valueSixth (a : Maxima F) : IVec S8x128 1 := k0_pay146 (valueQuot a) k0_pay142 (valueFirst a) k0_pay144
/-- The values' scales, and -/
def valueScales (a : Maxima F) : FVec F S1x8x128 .f32 := k0_pay149 (valueAbs a) (valueQuot a) (valueField a) (valueSixth a) k0_pay147
/-- their inverses. -/
def valueInv (a : Maxima F) : FVec F S8x128 .f32 := k0_pay150 (valueAbs a) (valueQuot a) (valueField a) (valueSixth a) k0_pay147

/-! ## The second loop's tiles -/

/-- The keys' codes, tile by tile, from the inverse scales and the rows. -/
def keyCodesOf (v : FVec F S8x128 .f32) (Y : Vec F S8192x128 .f32) : CodeTiles F := fun t =>
  k0_pay23 v (View.ld Y (Rect.unit (s := S8192x128) (k0_off7 t) S512x128.size (k0_off7_inb t)))
/-- The values' codes, likewise. -/
def valueCodesOf (v : FVec F S8x128 .f32) (Y : Vec F S8192x128 .f32) : CodeTiles F := fun t =>
  k0_pay24 v (View.ld Y (Rect.unit (s := S8192x128) (k0_off7 t) S512x128.size (k0_off7_inb t)))

set_option maxHeartbeats 4000000 in
/-- One trip stores one tile of the keys' codes and one of the values'. -/
theorem tripL2 (c : Dev nD) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (v640 v785 : FVec F S8x128 .f32) (z : BitVec 32) (X8 : BufTy.Contents (Elt F) arg8.view.ty) (X9 : BufTy.Contents (Elt F) arg9.view.ty)
    (t : Fin k0_t2_loop.trips) :
    tripL_k0_t2 (F := F) Variants.none c none i arg1 harg1 arg2 harg2 arg3 harg3 arg4 harg4 arg5 harg5 arg6 harg6 arg7 harg7 arg8 harg8 arg9 harg9 arg10 harg10 v640 v785 z X8 X9 t
      = ([codePiece (keyCodesOf v640 (arg8.view.read (Elt F) X8)) t], [codePiece (valueCodesOf v785 (arg9.view.read (Elt F) X9)) t]) := by
  unfold tripL_k0_t2 trip_k0_t2
  rfl

/-- The second loop's stores are `codesTo`. -/
theorem pb2 (c : Dev nD) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (v640 v785 : FVec F S8x128 .f32) (z : BitVec 32) (X8 : BufTy.Contents (Elt F) arg8.view.ty) (X9 : BufTy.Contents (Elt F) arg9.view.ty) :
    ∀ k, k ≤ k0_t2_loop.trips → pb_k0_t2 (F := F) Variants.none c none i arg1 harg1 arg2 harg2 arg3 harg3 arg4 harg4 arg5 harg5 arg6 harg6 arg7 harg7 arg8 harg8 arg9 harg9 arg10 harg10 v640 v785 z X8 X9 k
      = (codesTo (keyCodesOf v640 (arg8.view.read (Elt F) X8)) k, codesTo (valueCodesOf v785 (arg9.view.read (Elt F) X9)) k)
  | 0, _ => rfl
  | k + 1, hk => by
    have h : k < k0_t2_loop.trips := hk
    have e := pb_k0_t2_succ (F := F) Variants.none c none i arg1 harg1 arg2 harg2 arg3 harg3 arg4 harg4 arg5 harg5 arg6 harg6 arg7 harg7 arg8 harg8 arg9 harg9 arg10 harg10 v640 v785 z X8 X9 ⟨k, h⟩
    rw [tripL2] at e
    refine e.trans ?_
    rw [pb2 c i arg1 harg1 arg2 harg2 arg3 harg3 arg4 harg4 arg5 harg5 arg6 harg6 arg7 harg7 arg8 harg8 arg9 harg9 arg10 harg10 v640 v785 z X8 X9 k (Nat.le_of_lt h)]
    rw [codesTo, codesTo, dif_pos h, dif_pos h]
    rfl

/-! ## What the body leaves -/

/-- The maxima the first loop ends with. -/
def maxima (i : grid0.Coords) (x1 : Vec F S5x2048 .i32) (x2 x3 : Vec F S1x2048x512 .bf16) : Maxima F :=
  maximaTo i lanes k0_pay25 (posAll x1) x2 x3 (k0_pay122 (F := F), k0_pay122 (F := F), k0_pay122 (F := F), k0_pay122 (F := F), k0_pay122 (F := F), k0_pay122 (F := F), k0_pay122 (F := F), k0_pay122 (F := F)) k0_t1_loop.trips
/-- The keys' codes of the block. -/
def keyCodes (i : grid0.Coords) (x1 : Vec F S5x2048 .i32) (x2 x3 : Vec F S1x2048x512 .bf16) : Vec F S1x2048x4x128 .fp8e4m3 :=
  codes (keyCodesOf (keyInv (maxima i x1 x2 x3)) (rows (keyTiles i (posAll x1) x2)))
/-- The values' codes of the block. -/
def valueCodes (i : grid0.Coords) (x1 : Vec F S5x2048 .i32) (x2 x3 : Vec F S1x2048x512 .bf16) : Vec F S1x2048x4x128 .fp8e4m3 :=
  codes (valueCodesOf (valueInv (maxima i x1 x2 x3)) (rows (valueTiles x3)))

/-- One whole-block store reads back as what it stores. -/
theorem read_one (a : Memref sig .tc .vmem S1x8x128 .f32) (f : BufTy.Contents (Elt F) a.view.ty) (w : Vec F S1x8x128 .f32) :
    a.view.read (Elt F) (a.view.writes (Elt F) f [⟨Rect.unit (s := S1x8x128) ![0, 0, 0] S1x8x128.size inb_S1x8x128_S1x8x128_0_0_0, w⟩]) = w := by
  rw [View.read_writes_eq_canon a.view f _ (View.cover_of_tiled _ S1x8x128.size (by rfl))]
  exact View.canon_cons_unit_lit _ w [] (by decide)

set_option maxHeartbeats 40000000 in
/-- The body at point `i`: inputs kept, outputs at the codes and scales, scratch buffers given back at some contents. -/
theorem sound_kernel (c : Dev nD) (E : Set ℕ) (i : grid0.Coords) (arg1 : Memref sig .tc .vmem S5x2048 .i32) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x4x128 .fp8e4m3) (harg4 : arg4.IsWhole) (arg5 : Memref sig .tc .vmem S1x8x128 .f32) (harg5 : arg5.IsWhole) (arg6 : Memref sig .tc .vmem S1x2048x4x128 .fp8e4m3) (harg6 : arg6.IsWhole) (arg7 : Memref sig .tc .vmem S1x8x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S80x8x128 .i32) (harg10 : arg10.IsWhole)
    (x1 : Vec F S5x2048 .i32) (x2 x3 : Vec F S1x2048x512 .bf16) (K : PUnit → sProp 𝕄) :
    iprop(owns (c : Thread nD τ) arg1 fullShare x1 ∗ owns (c : Thread nD τ) arg2 fullShare x2 ∗ owns (c : Thread nD τ) arg3 fullShare x3
      ∗ (∃ y, owns (c : Thread nD τ) arg4 fullShare y) ∗ (∃ y, owns (c : Thread nD τ) arg5 fullShare y)
      ∗ (∃ y, owns (c : Thread nD τ) arg6 fullShare y) ∗ (∃ y, owns (c : Thread nD τ) arg7 fullShare y)
      ∗ (∃ f, arg8.view.loc (c : Thread nD τ) ↦[arg8.view.set]{fullShare} f) ∗ (∃ f, arg9.view.loc (c : Thread nD τ) ↦[arg9.view.set]{fullShare} f)
      ∗ (∃ f, arg10.view.loc (c : Thread nD τ) ↦[arg10.view.set]{fullShare} f)
      ∗ (owns (c : Thread nD τ) arg1 fullShare x1 ∗ owns (c : Thread nD τ) arg2 fullShare x2 ∗ owns (c : Thread nD τ) arg3 fullShare x3
        ∗ owns (c : Thread nD τ) arg4 fullShare (keyCodes i x1 x2 x3) ∗ owns (c : Thread nD τ) arg5 fullShare (keyScales (maxima i x1 x2 x3))
        ∗ owns (c : Thread nD τ) arg6 fullShare (valueCodes i x1 x2 x3) ∗ owns (c : Thread nD τ) arg7 fullShare (valueScales (maxima i x1 x2 x3))
        ∗ (∃ f, arg8.view.loc (c : Thread nD τ) ↦[arg8.view.set]{fullShare} f) ∗ (∃ f, arg9.view.loc (c : Thread nD τ) ↦[arg9.view.set]{fullShare} f)
        ∗ (∃ f, arg10.view.loc (c : Thread nD τ) ↦[arg10.view.set]{fullShare} f) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10) K := by
  simp only [cc0__body_eq_skeleton]; unfold cc0__body_skel owns
  iintro ⟨⟨%f1, %h1, H1⟩, ⟨%f2, %h2, H2⟩, ⟨%f3, %h3, H3⟩, ⟨%y4, %f4, %h4, H4⟩, ⟨%y5, %f5, %h5, H5⟩, ⟨%y6, %f6, %h6, H6⟩, ⟨%y7, %f7, %h7, H7⟩, ⟨%f8, H8⟩, ⟨%f9, H9⟩, ⟨%f10, H10⟩, Hk⟩
  subst h1 h2 h3
  sl_exec
  sl_step
  have hX := read_posList arg10 arg10.view.junk (arg1.view.read (Elt F) f1)
  iapply Hk
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]
  · iexists _; isplitr; swap; · iexact H4
    ipureintro
    rw [pb2 c i arg1 harg1 arg2 harg2 arg3 harg3 arg4 harg4 arg5 harg5 arg6 harg6 arg7 harg7 arg8 harg8 arg9 harg9 arg10 harg10 _ _ _ _ _ _ (le_refl _)]
    refine (read_codesTo _ _ _).trans ?_
    unfold keyCodes maxima
    rw [← hX, ← read_tilesTo arg8 f8, ← keysTo_eq]
    rfl
  isplitl [H5]
  · iexists _; isplitr; swap; · iexact H5
    ipureintro
    refine (read_one _ _ _).trans ?_
    unfold maxima
    rw [← hX]
    rfl
  isplitl [H6]
  · iexists _; isplitr; swap; · iexact H6
    ipureintro
    rw [pb2 c i arg1 harg1 arg2 harg2 arg3 harg3 arg4 harg4 arg5 harg5 arg6 harg6 arg7 harg7 arg8 harg8 arg9 harg9 arg10 harg10 _ _ _ _ _ _ (le_refl _)]
    refine (read_codesTo _ _ _).trans ?_
    unfold valueCodes maxima
    rw [← hX, ← read_tilesTo arg9 f9, ← valuesTo_eq]
    rfl
  isplitl [H7]
  · iexists _; isplitr; swap; · iexact H7
    ipureintro
    refine (read_one _ _ _).trans ?_
    unfold maxima
    rw [← hX]
    rfl
  isplitl [H8]; · iexists _; iexact H8
  isplitl [H9]; · iexists _; iexact H9
  iexists _; iexact H10

end Cert.Proof.KernelIdeal

end
-- ==== Proof.RunKernelIdeal.lean ====
/-
  The run of the whole program: the body's triple at every grid point, the launch, the host lines after the region; from it
  the frame claim (arguments unchanged, semaphores at zero).
-/
module

public import proofs.«01_k».proof.Proof.BodyKernelIdeal
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: each array as the region finds it, each window's block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => keyCodes (grid0.coords t) (iblk m c 0 t) (iblk m c 1 t) (iblk m c 2 t)
    | ⟨4, _⟩ => keyScales (maxima (grid0.coords t) (iblk m c 0 t) (iblk m c 1 t) (iblk m c 2 t))
    | ⟨5, _⟩ => valueCodes (grid0.coords t) (iblk m c 0 t) (iblk m c 1 t) (iblk m c 2 t)
    | ⟨6, _⟩ => valueScales (maxima (grid0.coords t) (iblk m c 0 t) (iblk m c 1 t) (iblk m c 2 t))
  Φ _ := Pipeline.ΦA spec0 c
  q _ := fullShare
  owed _ := 0

/-- The arrays are the region's. -/
theorem A_eq (c : Dev nD) (w : Fin cfg0.W) : (dats m 0 c).A w = V m c (Pipeline.arrRef spec0 w) := by
  dsimp only [dats]

/-- The body leaves the positions' block as it was, -/
theorem after0_0 (c : Dev nD) (t : Fin cfg0.N) : (dats m 0 c).after 0 t = iblk m c 0 t := by dsimp only [dats]
/-- the keys' block, and -/
theorem after0_1 (c : Dev nD) (t : Fin cfg0.N) : (dats m 0 c).after 1 t = iblk m c 1 t := by dsimp only [dats]
/-- the values' block. -/
theorem after0_2 (c : Dev nD) (t : Fin cfg0.N) : (dats m 0 c).after 2 t = iblk m c 2 t := by dsimp only [dats]
/-- The keys' codes after the body, -/
theorem after0_3 (c : Dev nD) (t : Fin cfg0.N) : (dats m 0 c).after 3 t = keyCodes (grid0.coords t) (iblk m c 0 t) (iblk m c 1 t) (iblk m c 2 t) := by dsimp only [dats]
/-- the keys' scales, -/
theorem after0_4 (c : Dev nD) (t : Fin cfg0.N) : (dats m 0 c).after 4 t = keyScales (maxima (grid0.coords t) (iblk m c 0 t) (iblk m c 1 t) (iblk m c 2 t)) := by dsimp only [dats]
/-- the values' codes, -/
theorem after0_5 (c : Dev nD) (t : Fin cfg0.N) : (dats m 0 c).after 5 t = valueCodes (grid0.coords t) (iblk m c 0 t) (iblk m c 1 t) (iblk m c 2 t) := by dsimp only [dats]
/-- and the values' scales. -/
theorem after0_6 (c : Dev nD) (t : Fin cfg0.N) : (dats m 0 c).after 6 t = valueScales (maxima (grid0.coords t) (iblk m c 0 t) (iblk m c 1 t) (iblk m c 2 t)) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- The keys' buffer holds their block. -/
theorem before0_1 (c : Dev nD) (t : Fin cfg0.N) (d) : (dats m 0 c).before 1 t d = iblk m c 1 t :=
  before0_1_of m (dats m 0 c) (A_eq m c 1) (after0_1 m c) t d
/-- The values' buffer holds theirs. -/
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A whole scratch buffer at some contents is its memref's points-to at some contents. -/
theorem scratch_whole (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  show _ = (((c : Thread nD τ).loc b) ↦[(View.whole b : View sig .tc _ _ _).set]{fullShare} f : sProp 𝕄)
  rw [View.set_whole]

/-- The body at any point: the inputs hold their blocks, the three scratch buffers come out of the invariant and go back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  simp only [scratch_whole]
  iintro ⟨⟨⟨⟨%f8, H8⟩, ⟨%f9, H9⟩, ⟨%f10, H10⟩⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H8]; · iexists _; iexact H8
  isplitl [H9]; · iexists _; iexact H9
  isplitl [H10]; · iexists _; iexact H10
  iintro ⟨H0, H1, H2, H3, H4, H5, H6, ⟨%g8, H8⟩, ⟨%g9, H9⟩, ⟨%g10, H10⟩⟩
  isplitl [H8 H9 H10 Hg]
  · isplitl [H8 H9 H10]
    · isplitl [H8]; · iexists g8; iexact H8
      isplitl [H9]; · iexists g9; iexact H9
      iexists g10; iexact H10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's call of the body is the body. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every fair execution ends, each array of the pipeline at what the proof data says, the other buffers as the
    host lines after the region leave them, every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Exponent.lean ====
/-
  The quantiser's exponent over the reals. `exponent a` is the power of two that scales a head whose greatest absolute
  value is `a`. Two ways of finding it are shown to give it: a search, bit by bit, over the exponent field of a float
  word (`searchScale_eq`, `searchInverse_eq`), and the floor of a quotient of logarithms (`logScale_eq`, `logInverse_eq`).
-/
module

public import Idealize.ShloMosaic.PureOps.Ideal
public import Idealize.ShloMosaic.PureOps.Ideal.Laws
public import Mathlib.Analysis.SpecialFunctions.Log.Basic
public import Mathlib.Analysis.SpecialFunctions.Pow.Real

@[expose] public section

noncomputable section

namespace Cert.Proof.Exponent

open Idealize.ShloMosaic

/-! ## Constants -/

/-- The float nearest 1/448, as a real number. -/
def ratio : ℝ := 9586981 * (2 : ℝ) ^ (-32 : ℤ)

/-- It is positive, -/
theorem ratio_pos : 0 < ratio := by unfold ratio; positivity
/-- and less than one. -/
theorem ratio_lt_one : ratio < 1 := by unfold ratio; norm_num

/-- It is what its float word denotes. -/
theorem ofBits_ratio : Ideal.ofBits .f32 0x3B124925#32 = (ratio : EReal) := by
  simp [Ideal.ofBits, Ideal.ieee, ratio]
/-- The word of two. -/
theorem ofBits_two : Ideal.ofBits .f32 0x40000000#32 = ((2 : ℝ) : EReal) := by
  simp [Ideal.ofBits, Ideal.ieee]; norm_cast; norm_num
/-- The word of one. -/
theorem ofBits_one : Ideal.ofBits .f32 0x3F800000#32 = ((1 : ℝ) : EReal) := by
  simp [Ideal.ofBits, Ideal.ieee]; norm_cast; norm_num
/-- The word of -126. -/
theorem ofBits_neg126 : Ideal.ofBits .f32 0xC2FC0000#32 = ((-126 : ℝ) : EReal) := by
  simp [Ideal.ofBits, Ideal.ieee]; norm_cast; norm_num
/-- The word of zero. -/
theorem ofBits_zero : Ideal.ofBits .f32 0x00000000#32 = ((0 : ℝ) : EReal) := by
  simp [Ideal.ofBits, Ideal.ieee]

/-! ## The exponent -/

/-- The exponent of the scale: the least whole number `e`, from -126 up, with `a * ratio < 2 ^ e`; zero when `a` is. -/
def exponent (a : ℝ) : ℤ := if a = 0 then 0 else max (⌊Real.log (a * ratio) / Real.log 2⌋ + 1) (-126)

/-! ## The search -/

/-- The float whose word has exponent field `f` and nothing else. -/
def power (f : BitVec 32) : EReal := Ideal.ofBits .f32 (IntOp.shli .vector f 23#32)

/-- For a field from 1 to 254 it is a power of two. -/
theorem power_eq (n : ℕ) (h1 : 1 ≤ n) (h2 : n ≤ 254) :
    power (BitVec.ofNat 32 n) = (((2 : ℝ) ^ ((n : ℤ) - 127) : ℝ) : EReal) := by
  have hn : (IntOp.shli .vector (BitVec.ofNat 32 n) 23#32).toNat = n * 2 ^ 23 := by
    show (BitVec.ofNat 32 n <<< 23#32).toNat = _
    simp [BitVec.shiftLeft_eq', Nat.shiftLeft_eq]; omega
  unfold power
  generalize IntOp.shli .vector (BitVec.ofNat 32 n) 23#32 = b at hn
  have ex : (b.extractLsb' 23 8).toNat = n := by
    rw [BitVec.extractLsb'_toNat, hn, Nat.shiftRight_eq_div_pow]; omega
  have fr : (b.extractLsb' 0 23).toNat = 0 := by
    rw [BitVec.extractLsb'_toNat, hn, Nat.shiftRight_eq_div_pow]; omega
  have sg : (b.extractLsb' 31 1 == 1#1) = false := by
    rw [beq_eq_false_iff_ne]; intro h
    have := congrArg BitVec.toNat h
    rw [BitVec.extractLsb'_toNat, hn, Nat.shiftRight_eq_div_pow] at this
    simp at this; omega
  show Ideal.ieee 8 23 b = _
  unfold Ideal.ieee
  simp only [Nat.reduceAdd, ex, fr, sg]
  rw [if_neg (by norm_num; omega), if_neg (by omega)]
  congr 1
  have : ((n : ℤ) - 127) = ((n : ℤ) - (2 ^ (8 - 1) - 1) - (23 : ℕ)) + 23 := by norm_num
  rw [this, zpow_add₀ (by norm_num : (2 : ℝ) ≠ 0)]
  norm_num [mul_comm]

/-- For the field 255 it is infinite. -/
theorem power_255 : power (BitVec.ofNat 32 255) = ⊤ := by
  show Ideal.ieee 8 23 (2139095040#32) = ⊤
  simp [Ideal.ieee]

/-- One step of the search: the bit is kept when the float it makes is not above `q`. -/
def step (q : EReal) (bit f : BitVec 32) : BitVec 32 :=
  Scalar.select (Ideal.cmp .olt q (power (f + bit))) f (f + bit)

/-- The eight steps. -/
def search (q : EReal) : BitVec 32 :=
  step q 1#32 (step q 2#32 (step q 4#32 (step q 8#32 (step q 16#32 (step q 32#32 (step q 64#32 (step q 128#32 0#32)))))))

/-- What holds of a field when `b` is the distance to the next candidate above it. -/
def Between (q : EReal) (b : ℕ) (f : BitVec 32) : Prop :=
  ∃ n : ℕ, f = BitVec.ofNat 32 n ∧ n + b ≤ 256 ∧ (n = 0 ∨ power (BitVec.ofNat 32 n) ≤ q)
    ∧ (n + b = 256 ∨ q < power (BitVec.ofNat 32 (n + b)))

/-- A step halves the distance to the next candidate. -/
theorem step_between (q : EReal) (c : ℕ) (hc : 0 < c) (f : BitVec 32) (h : Between q (2 * c) f) :
    Between q c (step q (BitVec.ofNat 32 c) f) := by
  obtain ⟨n, rfl, hn, lo, hi⟩ := h
  have e : BitVec.ofNat 32 n + BitVec.ofNat 32 c = BitVec.ofNat 32 (n + c) := (BitVec.ofNat_add ..).symm
  unfold step
  rw [e]
  by_cases hq : q < power (BitVec.ofNat 32 (n + c))
  · refine ⟨n, ?_, by omega, lo, .inr hq⟩
    simp [Scalar.select, Ideal.cmp, hq]
  · refine ⟨n + c, ?_, by omega, .inr (not_lt.mp hq), ?_⟩
    · simp [Scalar.select, Ideal.cmp, hq]
    · rcases hi with hi | hi
      · exact .inl (by omega)
      · exact .inr (by rwa [show n + c + c = n + 2 * c by omega])

/-- After the eight steps the next candidate is the next field. -/
theorem search_between (q : EReal) : Between q 1 (search q) := by
  unfold search
  refine step_between q 1 (by norm_num) _ (step_between q 2 (by norm_num) _ (step_between q 4 (by norm_num) _
    (step_between q 8 (by norm_num) _ (step_between q 16 (by norm_num) _ (step_between q 32 (by norm_num) _
    (step_between q 64 (by norm_num) _ (step_between q 128 (by norm_num) _ ?_)))))))
  exact ⟨0, rfl, le_refl _, .inl rfl, .inl rfl⟩

/-- Below `2 ^ 126`, the search finds `n` with `2 ^ (n - 127) ≤ q < 2 ^ (n - 126)`, the lower bound unless `n` is zero. -/
theorem search_spec (q : ℝ) (h : q < (2 : ℝ) ^ (126 : ℤ)) :
    ∃ n : ℕ, search (q : EReal) = BitVec.ofNat 32 n ∧ n ≤ 252 ∧ (n = 0 ∨ (2 : ℝ) ^ ((n : ℤ) - 127) ≤ q)
      ∧ q < (2 : ℝ) ^ ((n : ℤ) - 126) := by
  obtain ⟨n, e, hn, lo, hi⟩ := search_between (q : EReal)
  have n255 : n ≠ 255 := by
    rintro rfl
    rcases lo with lo | lo
    · omega
    · rw [power_255] at lo; exact absurd (top_le_iff.mp lo) (EReal.coe_ne_top q)
  have lo' : n = 0 ∨ (2 : ℝ) ^ ((n : ℤ) - 127) ≤ q := by
    by_cases h0 : n = 0
    · exact .inl h0
    · rcases lo with lo | lo
      · exact .inl lo
      · rw [power_eq n (by omega) (by omega)] at lo
        exact .inr (EReal.coe_le_coe_iff.mp lo)
  have n252 : n ≤ 252 := by
    rcases lo' with lo' | lo'
    · omega
    · have := (zpow_lt_zpow_iff_right₀ (by norm_num : (1 : ℝ) < 2)).mp (lt_of_le_of_lt lo' h)
      omega
  refine ⟨n, e, n252, lo', ?_⟩
  rcases hi with hi | hi
  · omega
  · rw [power_eq (n + 1) (by omega) (by omega)] at hi
    have := EReal.coe_lt_coe_iff.mp hi
    rwa [show ((n + 1 : ℕ) : ℤ) - 127 = (n : ℤ) - 126 by push_cast; ring] at this

/-- The search's exponent. -/
def searchExponent (a q : EReal) : BitVec 32 :=
  Scalar.select (Ideal.cmp .oeq a (Ideal.ofBits .f32 0x00000000#32)) 0#32 (search q - 126#32)
/-- The scale it gives, and -/
def searchScale (a q : EReal) : EReal := power (searchExponent a q + 127#32)
/-- the scale's inverse. -/
def searchInverse (a q : EReal) : EReal := power (0#32 - searchExponent a q + 127#32)

/-- The field so found, less 126, is the exponent. -/
theorem exponent_of_search (a : ℝ) (ha : 0 < a) (n : ℕ) (lo : n = 0 ∨ (2 : ℝ) ^ ((n : ℤ) - 127) ≤ a * ratio)
    (hi : a * ratio < (2 : ℝ) ^ ((n : ℤ) - 126)) : exponent a = (n : ℤ) - 126 := by
  have hq : 0 < a * ratio := mul_pos ha ratio_pos
  have l2 : 0 < Real.log 2 := Real.log_pos (by norm_num)
  unfold exponent
  rw [if_neg ha.ne']
  have hi' : Real.log (a * ratio) / Real.log 2 < ((n : ℤ) - 126 : ℤ) := by
    rw [div_lt_iff₀ l2, ← Real.log_zpow]; exact Real.log_lt_log hq hi
  rcases lo with rfl | lo
  · have : ⌊Real.log (a * ratio) / Real.log 2⌋ < ((0 : ℕ) : ℤ) - 126 := Int.floor_lt.mpr hi'
    rw [max_eq_right (by omega)]; simp
  · have lo' : (((n : ℤ) - 127 : ℤ) : ℝ) ≤ Real.log (a * ratio) / Real.log 2 := by
      rw [le_div_iff₀ l2, ← Real.log_zpow]; exact Real.log_le_log (by positivity) lo
    have e : ⌊Real.log (a * ratio) / Real.log 2⌋ = (n : ℤ) - 127 := by
      rw [Int.floor_eq_iff]; refine ⟨lo', lt_of_lt_of_le hi' (by push_cast; linarith)⟩
    rw [e, max_eq_left (by omega)]; ring

/-- The search's scale is two to the exponent, and -/
theorem searchScale_eq (a : ℝ) (ha : 0 ≤ a) (h : a * ratio < (2 : ℝ) ^ (126 : ℤ)) :
    searchScale a (a * Ideal.ofBits .f32 0x3B124925#32) = (((2 : ℝ) ^ exponent a : ℝ) : EReal) := by
  rw [ofBits_ratio, ← EReal.coe_mul]
  unfold searchScale searchExponent
  rw [ofBits_zero]
  rcases ha.eq_or_lt with rfl | ha
  · simp only [Scalar.select, Ideal.cmp, decide_true, BitVec.ofBool_true, if_true]
    rw [show (0#32 + 127#32) = BitVec.ofNat 32 127 from rfl, power_eq 127 (by norm_num) (by norm_num)]
    simp [exponent]
  · obtain ⟨n, e, hn, lo, hi⟩ := search_spec (a * ratio) h
    have na : ¬ (a : EReal) = ((0 : ℝ) : EReal) := fun h => ha.ne' (EReal.coe_eq_coe_iff.mp h)
    simp only [Scalar.select, Ideal.cmp, na, decide_false, BitVec.ofBool_false]
    rw [if_neg (by decide), e, show BitVec.ofNat 32 n - 126#32 + 127#32 = BitVec.ofNat 32 (n + 1) by
      apply BitVec.eq_of_toNat_eq; simp; omega, power_eq (n + 1) (by omega) (by omega),
      exponent_of_search a ha n lo hi]
    congr 2; push_cast; ring

/-- its inverse two to the exponent's opposite. -/
theorem searchInverse_eq (a : ℝ) (ha : 0 ≤ a) (h : a * ratio < (2 : ℝ) ^ (126 : ℤ)) :
    searchInverse a (a * Ideal.ofBits .f32 0x3B124925#32) = (((2 : ℝ) ^ (-exponent a) : ℝ) : EReal) := by
  rw [ofBits_ratio, ← EReal.coe_mul]
  unfold searchInverse searchExponent
  rw [ofBits_zero]
  rcases ha.eq_or_lt with rfl | ha
  · simp only [Scalar.select, Ideal.cmp, decide_true, BitVec.ofBool_true, if_true]
    rw [show (0#32 - 0#32 + 127#32) = BitVec.ofNat 32 127 from rfl, power_eq 127 (by norm_num) (by norm_num)]
    simp [exponent]
  · obtain ⟨n, e, hn, lo, hi⟩ := search_spec (a * ratio) h
    have na : ¬ (a : EReal) = ((0 : ℝ) : EReal) := fun h => ha.ne' (EReal.coe_eq_coe_iff.mp h)
    simp only [Scalar.select, Ideal.cmp, na, decide_false, BitVec.ofBool_false]
    rw [if_neg (by decide), e, show 0#32 - (BitVec.ofNat 32 n - 126#32) + 127#32 = BitVec.ofNat 32 (253 - n) by
      apply BitVec.eq_of_toNat_eq; simp; omega, power_eq (253 - n) (by omega) (by omega),
      exponent_of_search a ha n lo hi]
    congr 2; omega

/-! ## The quotient of logarithms -/

/-- The exponent by logarithms. -/
def logExponent (a : EReal) : EReal :=
  Scalar.select (Ideal.cmp .oeq a (Ideal.ofBits .f32 0x00000000#32)) (Ideal.ofBits .f32 0x00000000#32)
    (max (Ideal.liftRound Int.floor (Ideal.div (Ideal.log (a * Ideal.ofBits .f32 0x3B124925#32))
      (Ideal.log (Ideal.ofBits .f32 0x40000000#32))) + Ideal.ofBits .f32 0x3F800000#32) (Ideal.ofBits .f32 0xC2FC0000#32))

/-- It is the exponent. -/
theorem logExponent_eq (a : ℝ) (ha : 0 ≤ a) : logExponent a = ((exponent a : ℝ) : EReal) := by
  unfold logExponent
  rw [ofBits_zero, ofBits_ratio, ofBits_two, ofBits_one, ofBits_neg126, ← EReal.coe_mul]
  rcases ha.eq_or_lt with rfl | ha
  · simp [Scalar.select, Ideal.cmp, exponent]
  · have na : ¬ (a : EReal) = ((0 : ℝ) : EReal) := fun h => ha.ne' (EReal.coe_eq_coe_iff.mp h)
    have hq : 0 < a * ratio := mul_pos ha ratio_pos
    have l2 : Real.log 2 ≠ 0 := (Real.log_pos (by norm_num)).ne'
    have e1 : Ideal.log ((a * ratio : ℝ) : EReal) = (Real.log (a * ratio) : EReal) := if_neg (not_le.mpr hq)
    have e2 : Ideal.log ((2 : ℝ) : EReal) = (Real.log 2 : EReal) := if_neg (by norm_num)
    have e3 : Ideal.div (Real.log (a * ratio) : EReal) (Real.log 2 : EReal) = ((Real.log (a * ratio) / Real.log 2 : ℝ) : EReal) := by
      unfold Ideal.div
      rw [if_neg (fun h => l2 (EReal.coe_eq_zero.mp h)), ← EReal.coe_inv, ← EReal.coe_mul, div_eq_mul_inv]
    simp only [Scalar.select, Ideal.cmp, na, decide_false, BitVec.ofBool_false]
    rw [if_neg (by decide), e1, e2, e3]
    show max (((⌊Real.log (a * ratio) / Real.log 2⌋ : ℝ) : EReal) + ((1 : ℝ) : EReal)) ((-126 : ℝ) : EReal) = _
    rw [← EReal.coe_add, ← EReal.coe_strictMono.monotone.map_max]
    congr 1
    unfold exponent
    rw [if_neg ha.ne']
    push_cast; rfl

/-- Two to the exponent by logarithms, and -/
theorem logScale_eq (a : ℝ) (ha : 0 ≤ a) :
    Ideal.pow (Ideal.ofBits .f32 0x40000000#32) (logExponent a) = (((2 : ℝ) ^ exponent a : ℝ) : EReal) := by
  rw [logExponent_eq a ha, ofBits_two]
  show ((Real.rpow 2 (exponent a : ℝ) : ℝ) : EReal) = _
  congr 1
  exact Real.rpow_intCast 2 _

/-- two to its opposite. -/
theorem logInverse_eq (a : ℝ) (ha : 0 ≤ a) :
    Ideal.pow (Ideal.ofBits .f32 0x40000000#32) (-logExponent a) = (((2 : ℝ) ^ (-exponent a) : ℝ) : EReal) := by
  rw [logExponent_eq a ha, ofBits_two, ← EReal.coe_neg]
  show ((Real.rpow 2 (-(exponent a : ℝ)) : ℝ) : EReal) = _
  congr 1
  rw [← Int.cast_neg]
  exact Real.rpow_intCast 2 _

end Cert.Proof.Exponent

end
-- ==== Proof.Spec.lean ====
/-
  What both programs compute, as functions on extended reals: the rotation of a head's 128 lanes by an angle that grows
  with the token's position (`rot`), a head's greatest absolute value (`greatest`), and its scale and codes (`scale`,
  `code`).
-/
module

public import proofs.«01_k».proof.Proof.Exponent
public import Mathlib.Analysis.SpecialFunctions.Trigonometric.Basic

@[expose] public section

noncomputable section

namespace Cert.Proof.Spec

open Idealize.ShloMosaic Cert.Proof.Exponent

/-! ## The rotation -/

/-- The frequency of lane pair `j`: one over `10000 ^ (2 j / 128)`. -/
def freq (j : Fin 64) : EReal :=
  Ideal.div (Ideal.ofBits .f32 0x3F800000#32) (Ideal.pow (Ideal.ofBits .f32 0x461C4000#32)
    (Ideal.div (((2 * j.val : ℝ) : ℝ) : EReal) (Ideal.ofBits .f32 0x43000000#32)))
/-- The angle of lane pair `j` at position `p`. -/
def angle (p : BitVec 32) (j : Fin 64) : EReal := ((p.toInt : ℝ) : EReal) * freq j
/-- Lane `d`'s pair. -/
def pair (d : Fin 128) : Fin 64 := ⟨d.val % 64, Nat.mod_lt _ (by norm_num)⟩
/-- Lane `d`'s partner, half the lanes away. -/
def partner (d : Fin 128) : Fin 128 := ⟨(d.val + 64) % 128, Nat.mod_lt _ (by norm_num)⟩
/-- Lane `d` of the head `x` rotated at position `p`. -/
def rot (x : Fin 128 → EReal) (p : BitVec 32) (d : Fin 128) : EReal :=
  x d * Ideal.cos (angle p (pair d))
    + x (partner d) * (if d.val < 64 then -Ideal.sin (angle p (pair d)) else Ideal.sin (angle p (pair d)))

/-- The word of 128. -/
theorem ofBits_128 : Ideal.ofBits .f32 0x43000000#32 = ((128 : ℝ) : EReal) := by
  simp [Ideal.ofBits, Ideal.ieee]; norm_cast; norm_num
/-- The word of 10000. -/
theorem ofBits_10000 : Ideal.ofBits .f32 0x461C4000#32 = ((10000 : ℝ) : EReal) := by
  simp [Ideal.ofBits, Ideal.ieee]; norm_cast; norm_num

/-- A quotient of reals by a nonzero one is theirs. -/
theorem div_coe (x y : ℝ) (hy : y ≠ 0) : Ideal.div (x : EReal) (y : EReal) = ((x / y : ℝ) : EReal) := by
  unfold Ideal.div
  rw [if_neg (fun h => hy (EReal.coe_eq_zero.mp h)), ← EReal.coe_inv, ← EReal.coe_mul, div_eq_mul_inv]

/-- A frequency is a real number. -/
theorem freq_real (j : Fin 64) : ∃ r : ℝ, freq j = (r : EReal) := by
  unfold freq
  rw [ofBits_128, ofBits_10000, ofBits_one, div_coe _ _ (by norm_num)]
  refine ⟨1 / Real.rpow 10000 (2 * j.val / 128), ?_⟩
  exact div_coe 1 (Real.rpow 10000 (2 * j.val / 128)) (Real.rpow_pos_of_pos (by norm_num) _).ne'
/-- So is an angle. -/
theorem angle_real (p : BitVec 32) (j : Fin 64) : ∃ r : ℝ, angle p j = (r : EReal) := by
  obtain ⟨r, h⟩ := freq_real j
  exact ⟨p.toInt * r, by unfold angle; rw [h, ← EReal.coe_mul]⟩

/-- Every element of `y` is a real number of absolute value at most `M`. -/
def Within (M : ℝ) (y : EReal) : Prop := ∃ r : ℝ, y = (r : EReal) ∧ |r| ≤ M

/-- A rotation at most doubles the bound. -/
theorem rot_within (M : ℝ) (x : Fin 128 → EReal) (hx : ∀ d, Within M (x d)) (p : BitVec 32) (d : Fin 128) :
    Within (M + M) (rot x p d) := by
  obtain ⟨u, hu, hu'⟩ := hx d
  obtain ⟨w, hw, hw'⟩ := hx (partner d)
  obtain ⟨θ, hθ⟩ := angle_real p (pair d)
  have ec : Ideal.cos (θ : EReal) = ((Real.cos θ : ℝ) : EReal) := rfl
  have es : Ideal.sin (θ : EReal) = ((Real.sin θ : ℝ) : EReal) := rfl
  have bound (a b : ℝ) (ha : |a| ≤ M) (hb : |b| ≤ 1) : |a * b| ≤ M := by
    rw [abs_mul]
    calc |a| * |b| ≤ |a| * 1 := mul_le_mul_of_nonneg_left hb (abs_nonneg a)
      _ ≤ M := by rw [mul_one]; exact ha
  unfold rot
  rw [hu, hw, hθ, ec, es]
  split
  · refine ⟨u * Real.cos θ + w * -Real.sin θ, by push_cast; rfl, (abs_add_le _ _).trans (add_le_add ?_ ?_)⟩
    · exact bound _ _ hu' (Real.abs_cos_le_one θ)
    · exact bound _ _ hw' (by rw [abs_neg]; exact Real.abs_sin_le_one θ)
  · refine ⟨u * Real.cos θ + w * Real.sin θ, by push_cast; rfl, (abs_add_le _ _).trans (add_le_add ?_ ?_)⟩
    · exact bound _ _ hu' (Real.abs_cos_le_one θ)
    · exact bound _ _ hw' (Real.abs_sin_le_one θ)

/-! ## The greatest absolute value -/

/-- An absolute value. -/
def mag (y : EReal) : EReal := max y (-y)
/-- It is not negative. -/
theorem mag_nonneg (y : EReal) : 0 ≤ mag y := by
  rcases le_total 0 y with h | h
  · exact le_max_of_le_left h
  · exact le_max_of_le_right (EReal.neg_nonneg.mpr h)

/-- The greatest absolute value of a head over all tokens and lanes. -/
def greatest (y : Fin 2048 → Fin 128 → EReal) : EReal := ⨆ t, ⨆ d, mag (y t d)
/-- It is at most `c` when every absolute value is. -/
theorem greatest_le (y : Fin 2048 → Fin 128 → EReal) (c : EReal) : greatest y ≤ c ↔ ∀ t d, mag (y t d) ≤ c := by
  unfold greatest; simp only [iSup_le_iff]

/-- Of bounded elements it is a real number, not negative, within the bound. -/
theorem greatest_real (M : ℝ) (y : Fin 2048 → Fin 128 → EReal) (hy : ∀ t d, Within M (y t d)) :
    ∃ a : ℝ, greatest y = (a : EReal) ∧ 0 ≤ a ∧ a ≤ M := by
  have hi : greatest y ≤ (M : EReal) := by
    rw [greatest_le]; intro t d
    obtain ⟨r, hr, hM⟩ := hy t d
    rw [hr]
    refine max_le (EReal.coe_le_coe_iff.mpr ((le_abs_self r).trans hM)) ?_
    rw [← EReal.coe_neg]; exact EReal.coe_le_coe_iff.mpr ((neg_le_abs r).trans hM)
  have lo : 0 ≤ greatest y := (mag_nonneg (y 0 0)).trans ((greatest_le y _).mp (le_refl _) 0 0)
  have nt : greatest y ≠ ⊤ := fun h => absurd (h ▸ hi) (by simp)
  have nb : greatest y ≠ ⊥ := fun h => absurd (h ▸ lo) (by simp)
  have e := EReal.coe_toReal nt nb
  refine ⟨(greatest y).toReal, e.symm, ?_, ?_⟩
  · rw [← e] at lo; exact EReal.coe_nonneg.mp lo
  · rw [← e] at hi; exact EReal.coe_le_coe_iff.mp hi

/-! ## The scale and the codes -/

/-- The scale of a head of greatest absolute value `a`. -/
def scale (a : EReal) : EReal := Ideal.pow (Ideal.ofBits .f32 0x40000000#32) (logExponent a)
/-- The code of the element `y` of that head. -/
def code (a y : EReal) : EReal :=
  min (Ideal.ofBits .f32 0x43E00000#32) (max (Ideal.ofBits .f32 0xC3E00000#32)
    (y * Ideal.pow (Ideal.ofBits .f32 0x40000000#32) (-logExponent a)))

/-- The search's scale is the scale, where the greatest absolute value is below `2 ^ 130`, and -/
theorem searchScale_eq_scale (M : ℝ) (hM : M < 2 ^ 130) (y : Fin 2048 → Fin 128 → EReal) (hy : ∀ t d, Within M (y t d)) :
    searchScale (greatest y) (greatest y * Ideal.ofBits .f32 0x3B124925#32) = scale (greatest y) := by
  obtain ⟨a, e, h0, hle⟩ := greatest_real M y hy
  have : a * ratio < (2 : ℝ) ^ (126 : ℤ) := by unfold ratio; norm_num at hM ⊢; linarith
  rw [e, searchScale_eq a h0 this]
  exact (logScale_eq a h0).symm
/-- its inverse the inverse. -/
theorem searchInverse_eq_inverse (M : ℝ) (hM : M < 2 ^ 130) (y : Fin 2048 → Fin 128 → EReal) (hy : ∀ t d, Within M (y t d)) :
    searchInverse (greatest y) (greatest y * Ideal.ofBits .f32 0x3B124925#32)
      = Ideal.pow (Ideal.ofBits .f32 0x40000000#32) (-logExponent (greatest y)) := by
  obtain ⟨a, e, h0, hle⟩ := greatest_real M y hy
  have : a * ratio < (2 : ℝ) ^ (126 : ℤ) := by unfold ratio; norm_num at hM ⊢; linarith
  rw [e, searchInverse_eq a h0 this]
  exact (logInverse_eq a h0).symm

end Cert.Proof.Spec

end
-- ==== Proof.Tiles.lean ====
/-
  The first loop's tiles read element by element: trip `t`'s tile of head `h` holds, at token `s` and lane `d`, the rotated
  key (`keyTiles_apply`) or the value (`valueTiles_apply`) of token `128 t + s`.
-/
module

public import proofs.«01_k».proof.Proof.BodyKernelIdeal
public import proofs.«01_k».proof.Proof.Spec
public import Idealize.ShloMosaic.Lib.Pointwise
public import Idealize.ShloMosaic.Lib.Pipeline.Value
public import Idealize.ShloMosaic.Lib.Pipeline.ValueKit.Tiles

@[expose] public section

noncomputable section

namespace Cert.Proof.KernelIdeal

open Cert.KernelIdeal Cert.KernelIdeal.Gen
open Idealize.ShloMosaic Cert.Proof.Exponent Cert.Proof.Spec

/-- A trip's number is below sixteen. -/
theorem trip_lt (t : Fin k0_t1_loop.trips) : t.val < 16 := Nat.lt_of_lt_of_eq t.isLt trips1

/-- Token `s` of trip `t`. -/
abbrev token (t : Fin k0_t1_loop.trips) (s : Fin 128) : Fin 2048 :=
  ⟨128 * t.val + s.val, by have := trip_lt t; have := s.isLt; omega⟩
/-- Lane `d` of head `h`. -/
abbrev lane (h : Fin 4) (d : Fin 128) : Fin 512 := ⟨128 * h.val + d.val, by have := h.isLt; have := d.isLt; omega⟩

/-! ## The loads -/

/-- The load of head 0 in a trip, -/
theorem head0_apply (x : Vec Ideal S1x2048x512 .bf16) (t : Fin k0_t1_loop.trips) (s d : Fin 128) :
    head0 x t (ix3 0 s d) = x (ix3 0 (token t s) (lane 0 d)) := by
  refine View.ld_unit_apply_of x _ _ _ _ _ fun a => ?_
  refine Eq.trans ?_ (congrArg (· + _) (congrFun (k0_off2_eq t) a).symm)
  match a with
  | ⟨0, _⟩ => rfl
  | ⟨1, _⟩ => rfl
  | ⟨2, _⟩ => show 128 * 0 + d.val = 0 + d.val; omega
/-- of head 1, -/
theorem head1_apply (x : Vec Ideal S1x2048x512 .bf16) (t : Fin k0_t1_loop.trips) (s d : Fin 128) :
    head1 x t (ix3 0 s d) = x (ix3 0 (token t s) (lane 1 d)) := by
  refine View.ld_unit_apply_of x _ _ _ _ _ fun a => ?_
  refine Eq.trans ?_ (congrArg (· + _) (congrFun (k0_off4_eq t) a).symm)
  match a with
  | ⟨0, _⟩ => rfl
  | ⟨1, _⟩ => rfl
  | ⟨2, _⟩ => rfl
/-- of head 2, -/
theorem head2_apply (x : Vec Ideal S1x2048x512 .bf16) (t : Fin k0_t1_loop.trips) (s d : Fin 128) :
    head2 x t (ix3 0 s d) = x (ix3 0 (token t s) (lane 2 d)) := by
  refine View.ld_unit_apply_of x _ _ _ _ _ fun a => ?_
  refine Eq.trans ?_ (congrArg (· + _) (congrFun (k0_off5_eq t) a).symm)
  match a with
  | ⟨0, _⟩ => rfl
  | ⟨1, _⟩ => rfl
  | ⟨2, _⟩ => rfl
/-- and of head 3. -/
theorem head3_apply (x : Vec Ideal S1x2048x512 .bf16) (t : Fin k0_t1_loop.trips) (s d : Fin 128) :
    head3 x t (ix3 0 s d) = x (ix3 0 (token t s) (lane 3 d)) := by
  refine View.ld_unit_apply_of x _ _ _ _ _ fun a => ?_
  refine Eq.trans ?_ (congrArg (· + _) (congrFun (k0_off6_eq t) a).symm)
  match a with
  | ⟨0, _⟩ => rfl
  | ⟨1, _⟩ => rfl
  | ⟨2, _⟩ => rfl

/-- The sequence of a grid point. -/
abbrev seq (i : grid0.Coords) : Fin 5 := i 0

/-- Row `k` of the positions scratch, eight times the same positions. -/
theorem posRow_apply (p : Vec Ideal S5x2048 .i32) (k : Fin 80) (r : Fin 8) (s : Fin 128) :
    posRow p k (ix3 0 r s) = p (ix2 ⟨k.val % 5, by omega⟩ ⟨k.val / 5 * 128 + s.val, by have := k.isLt; have := s.isLt; omega⟩) := by
  unfold posRow
  generalize hq : View.ld p (Rect.unit (s := S5x2048) ![k.val % 5, k.val / 5 * 128] S1x128.size (rowInb k)) = q
  have e : k0_pay26 (F := Ideal) q (ix3 0 r s) = q (ix2 0 s) := by
    pointwise [k0_pay26]
  rw [e, ← hq]
  refine View.ld_unit_apply_of p _ _ _ _ _ fun a => ?_
  match a with
  | ⟨0, _⟩ => rfl
  | ⟨1, _⟩ => rfl

/-- Trip `t`'s positions. -/
theorem posTile_apply (i : grid0.Coords) (p : Vec Ideal S5x2048 .i32) (t : Fin k0_t1_loop.trips) (r : Fin 8) (s : Fin 128) :
    posTile i (posAll p) t (ix3 0 r s) = p (ix2 (seq i) (token t s)) := by
  have ht := trip_lt t
  have hi : (i 0).val < 5 := (i 0).isLt
  have e : posTile i (posAll p) t (ix3 0 r s) = posAll p (ix3 ⟨5 * t.val + (i 0).val, by omega⟩ r s) := by
    refine View.ld_unit_apply_of _ _ _ _ _ _ fun a => ?_
    refine Eq.trans ?_ (congrArg (· + _) (congrFun (k0_off1_eq i t) a).symm)
    match a with
    | ⟨0, _⟩ => rfl
    | ⟨1, _⟩ => show r.val = 0 + r.val; omega
    | ⟨2, _⟩ => show s.val = 0 + s.val; omega
  rw [e]
  unfold posAll
  refine Eq.trans ?_ ((posRow_apply p ⟨5 * t.val + (i 0).val, by omega⟩ r s).trans ?_)
  · rw [ix3_eq_valueIdx, ix3_eq_valueIdx]
  · congr 1
    congr 1
    · apply Fin.ext; show (5 * t.val + (i 0).val) % 5 = (i 0).val; omega
    · apply Fin.ext; show (5 * t.val + (i 0).val) / 5 * 128 + s.val = 128 * t.val + s.val; omega

/-! ## The angles -/

/-- The kernel's integer for a lane is twice its pair's number. -/
theorem freqWord : ∀ d : Fin 128, (2#32 * (BitVec.ofNat 32 d.val &&& 63#32)).toInt = 2 * ((d.val % 64 : ℕ) : ℤ) := by decide +kernel

/-- The frequencies, lane by lane. -/
theorem freq_apply (s d : Fin 128) : k0_pay25 (F := Ideal) (ix2 s d) = freq (pair d) := by
  pointwise [k0_pay25]
  have e : (FloatOps.sitofp (F := Ideal) FTy.f32 (IntOp.muli 2#32 (IntOp.andi (BitVec.ofNat 32 d.val) 63#32)) : EReal)
      = (((2 * (d.val % 64 : ℕ) : ℝ) : ℝ) : EReal) := by
    show (((2#32 * (BitVec.ofNat 32 d.val &&& 63#32)).toInt : ℝ) : EReal) = _
    rw [freqWord d]; push_cast; rfl
  rw [e]
  unfold freq pair
  rw [ofBits_one]; rfl

/-- Sixteen copies of eight rows, transposed and multiplied, read at an element. -/
theorem stacked_apply (w : FVec Ideal S8x128 .f32) (v : FVec Ideal S128x128 .f32) (s d : Fin 128) :
    mulf (transpose S128x128 [1, 0] (concatenate S128x128 0 [⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩]
      concatenates_S8x128_S8x128_S8x128_S8x128_S8x128_S8x128_S8x128_S8x128_S8x128_S8x128_S8x128_S8x128_S8x128_S8x128_S8x128_S8x128_S128x128_d0) transposes_S128x128_p1_0_S128x128) v (ix2 s d) = w (ix2 ⟨d.val % 8, by omega⟩ s) * v (ix2 s d) := by
  obtain ⟨W, e⟩ : ∃ W : FVec Ideal S128x128 .f32, W = concatenate S128x128 0 [⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩, ⟨S8x128, w⟩]
      concatenates_S8x128_S8x128_S8x128_S8x128_S8x128_S8x128_S8x128_S8x128_S8x128_S8x128_S8x128_S8x128_S8x128_S8x128_S8x128_S8x128_S128x128_d0 := ⟨_, rfl⟩
  rw [← e]
  have hc : W (ix2 d s) = w (ix2 ⟨d.val % 8, by omega⟩ s) := by
    rw [e]
    exact concatenate_ofFn_apply (s₁ := S8x128) (t := S128x128) 0 (N := 16) (fun _ => w)
      concatenates_S8x128_S8x128_S8x128_S8x128_S8x128_S8x128_S8x128_S8x128_S8x128_S8x128_S8x128_S8x128_S8x128_S8x128_S8x128_S8x128_S128x128_d0
      rfl 8 rfl (ix2 d s) ⟨d.val / 8, by have := d.isLt; omega⟩ rfl (ix2 ⟨d.val % 8, by omega⟩ s) rfl (fun b hb => by
        match b with
        | ⟨0, _⟩ => exact absurd rfl hb
        | ⟨1, _⟩ => rfl)
  have ht : transpose S128x128 [1, 0] W transposes_S128x128_p1_0_S128x128 (ix2 s d) = W (ix2 d s) := by
    pointwise []
  show transpose S128x128 [1, 0] W transposes_S128x128_p1_0_S128x128 (ix2 s d) * v (ix2 s d) = _
  rw [ht, hc]

/-- The angles: position times frequency. -/
theorem angle_apply (q : Fin 128 → BitVec 32) (P : Vec Ideal S1x8x128 .i32) (hP : ∀ r s, P (ix3 0 r s) = q s) (s d : Fin 128) :
    k0_pay1 (F := Ideal) k0_pay25 P (ix2 s d) = angle (q s) (pair d) := by
  have e : shapeCast S8x128 P shapeCasts_S1x8x128_S8x128 (ix2 ⟨d.val % 8, by omega⟩ s) = P (ix3 0 ⟨d.val % 8, by omega⟩ s) := by
    pointwise []
  refine (stacked_apply (sitofp .f32 (shapeCast S8x128 P shapeCasts_S1x8x128_S8x128)) k0_pay25 s d).trans ?_
  show (((shapeCast S8x128 P shapeCasts_S1x8x128_S8x128 (ix2 ⟨d.val % 8, by omega⟩ s)).toInt : ℝ) : EReal) * _ = _
  rw [e, hP, freq_apply]
  rfl

/-- The cosines. -/
theorem cos_apply (q : Fin 128 → BitVec 32) (P : Vec Ideal S1x8x128 .i32) (hP : ∀ r s, P (ix3 0 r s) = q s) (s d : Fin 128) :
    k0_pay2 (F := Ideal) k0_pay25 P (ix2 s d) = Ideal.cos (angle (q s) (pair d)) := by
  show Ideal.cos (k0_pay1 (F := Ideal) k0_pay25 P (ix2 s d)) = _
  rw [angle_apply q P hP]

/-- The kernel's test for the low lanes. -/
theorem laneLow : ∀ d : Fin 128, IntOp.cmpi .slt (BitVec.ofNat 32 d.val) 64#32 = BitVec.ofBool (decide (d.val < 64)) := by decide +kernel

/-- The sines, negated on the low lanes. -/
theorem sin_apply (q : Fin 128 → BitVec 32) (P : Vec Ideal S1x8x128 .i32) (hP : ∀ r s, P (ix3 0 r s) = q s) (s d : Fin 128) :
    k0_pay3 (F := Ideal) lanes k0_pay25 P (ix2 s d)
      = if d.val < 64 then -Ideal.sin (angle (q s) (pair d)) else Ideal.sin (angle (q s) (pair d)) := by
  have e : k0_pay3 (F := Ideal) lanes k0_pay25 P (ix2 s d)
      = Scalar.select (IntOp.cmpi .slt (lanes (ix2 s d)) 64#32)
        (Ideal.ofBits .f32 0x00000000#32 - Ideal.sin (k0_pay1 (F := Ideal) k0_pay25 P (ix2 s d)))
        (Ideal.sin (k0_pay1 (F := Ideal) k0_pay25 P (ix2 s d))) := rfl
  have l : lanes (ix2 s d) = BitVec.ofNat 32 d.val := by
    unfold lanes; pointwise []
  rw [e, angle_apply q P hP, l, laneLow, ofBits_zero]
  by_cases h : d.val < 64
  · simp [h, Scalar.select]
  · simp [h, Scalar.select]

/-! ## The tiles -/

/-- A head's load rotated by cosines and signed sines. -/
theorem rotated_apply (x : Vec Ideal S1x128x128 .bf16) (u w : FVec Ideal S128x128 .f32) (s d : Fin 128) :
    k0_pay22 u w x (ix2 s d) = x (ix3 0 s d) * u (ix2 s d) + x (ix3 0 s (partner d)) * w (ix2 s d) := by
  pointwise [k0_pay22]
  rfl

/-- The keys of sequence `seq i` as the block holds them, head by head. -/
abbrev heads (x : Vec Ideal S1x2048x512 .bf16) (h : Fin 4) (T : Fin 2048) (d : Fin 128) : EReal := x (ix3 0 T (lane h d))
/-- The keys rotated. -/
abbrev rotHeads (i : grid0.Coords) (p : Vec Ideal S5x2048 .i32) (x : Vec Ideal S1x2048x512 .bf16) (h : Fin 4) (T : Fin 2048)
    (d : Fin 128) : EReal := rot (heads x h T) (p (ix2 (seq i) T)) d

/-- The rotated keys of one trip, head by head, before they are stored. -/
def keyRot (i : grid0.Coords) (X : Vec Ideal S80x8x128 .i32) (x : Vec Ideal S1x2048x512 .bf16) (t : Fin k0_t1_loop.trips) :
    Fin 4 → FVec Ideal S128x128 .f32 :=
  ![k0_pay22 (k0_pay2 k0_pay25 (posTile i X t)) (k0_pay3 lanes k0_pay25 (posTile i X t)) (head0 x t),
    k0_pay22 (k0_pay2 k0_pay25 (posTile i X t)) (k0_pay3 lanes k0_pay25 (posTile i X t)) (head1 x t),
    k0_pay22 (k0_pay2 k0_pay25 (posTile i X t)) (k0_pay3 lanes k0_pay25 (posTile i X t)) (head2 x t),
    k0_pay22 (k0_pay2 k0_pay25 (posTile i X t)) (k0_pay3 lanes k0_pay25 (posTile i X t)) (head3 x t)]

/-- Element by element they are the rotation. -/
theorem keyRot_apply (i : grid0.Coords) (p : Vec Ideal S5x2048 .i32) (x : Vec Ideal S1x2048x512 .bf16)
    (t : Fin k0_t1_loop.trips) (h : Fin 4) (s d : Fin 128) :
    keyRot i (posAll p) x t h (ix2 s d) = rotHeads i p x h (token t s) d := by
  have hP := posTile_apply i p t
  match h with
  | ⟨0, _⟩ => show k0_pay22 _ _ (head0 x t) (ix2 s d) = _
              rw [rotated_apply, head0_apply, head0_apply, cos_apply _ _ hP, sin_apply _ _ hP]; rfl
  | ⟨1, _⟩ => show k0_pay22 _ _ (head1 x t) (ix2 s d) = _
              rw [rotated_apply, head1_apply, head1_apply, cos_apply _ _ hP, sin_apply _ _ hP]; rfl
  | ⟨2, _⟩ => show k0_pay22 _ _ (head2 x t) (ix2 s d) = _
              rw [rotated_apply, head2_apply, head2_apply, cos_apply _ _ hP, sin_apply _ _ hP]; rfl
  | ⟨3, _⟩ => show k0_pay22 _ _ (head3 x t) (ix2 s d) = _
              rw [rotated_apply, head3_apply, head3_apply, cos_apply _ _ hP, sin_apply _ _ hP]; rfl

/-- A change of shape to the same shape is nothing. -/
theorem same_apply (y : FVec Ideal S128x128 .f32) (s d : Fin 128) :
    shapeCast S128x128 y shapeCasts_S128x128_S128x128 (ix2 s d) = y (ix2 s d) := by
  pointwise []

/-- Each head's store is its rotated tile. -/
theorem stored0 (v0 : IVec S128x128 32) (v11 : FVec Ideal S128x128 .f32) (P : Vec Ideal S1x8x128 .i32) (x : Vec Ideal S1x128x128 .bf16) :
    k0_pay5 v0 v11 P x = shapeCast S128x128 (k0_pay22 (k0_pay2 v11 P) (k0_pay3 v0 v11 P) x) shapeCasts_S128x128_S128x128 := rfl
/-- So is the second head's, -/
theorem stored1 (u w : FVec Ideal S128x128 .f32) (x : Vec Ideal S1x128x128 .bf16) :
    k0_pay11 u w x = shapeCast S128x128 (k0_pay22 u w x) shapeCasts_S128x128_S128x128 := rfl
/-- the third's, -/
theorem stored2 (u w : FVec Ideal S128x128 .f32) (x : Vec Ideal S1x128x128 .bf16) :
    k0_pay17 u w x = shapeCast S128x128 (k0_pay22 u w x) shapeCasts_S128x128_S128x128 := rfl
/-- and the fourth's. -/
theorem stored3 (y : FVec Ideal S128x128 .f32) :
    k0_pay123 y = shapeCast S128x128 y shapeCasts_S128x128_S128x128 := rfl

/-- The stored key tiles. -/
theorem keyTiles_apply (i : grid0.Coords) (p : Vec Ideal S5x2048 .i32) (x : Vec Ideal S1x2048x512 .bf16)
    (t : Fin k0_t1_loop.trips) (h : Fin 4) (s d : Fin 128) :
    keyTiles i (posAll p) x t h (ix2 s d) = rotHeads i p x h (token t s) d := by
  rw [← keyRot_apply]
  unfold keyTiles keyRot
  match h with
  | ⟨0, _⟩ => show k0_pay5 _ _ _ (head0 x t) (ix2 s d) = k0_pay22 _ _ (head0 x t) (ix2 s d)
              rw [stored0, same_apply]
  | ⟨1, _⟩ => show k0_pay11 _ _ (head1 x t) (ix2 s d) = k0_pay22 _ _ (head1 x t) (ix2 s d)
              rw [stored1, same_apply]
  | ⟨2, _⟩ => show k0_pay17 _ _ (head2 x t) (ix2 s d) = k0_pay22 _ _ (head2 x t) (ix2 s d)
              rw [stored2, same_apply]
  | ⟨3, _⟩ => show k0_pay123 (k0_pay22 _ _ (head3 x t)) (ix2 s d) = k0_pay22 _ _ (head3 x t) (ix2 s d)
              rw [stored3, same_apply]

/-- The values of one trip, head by head, before they are stored. -/
def valueRaw (x : Vec Ideal S1x2048x512 .bf16) (t : Fin k0_t1_loop.trips) : Fin 4 → FVec Ideal S128x128 .f32 :=
  ![k0_pay6 (head0 x t), k0_pay6 (head1 x t), k0_pay6 (head2 x t), k0_pay6 (head3 x t)]

/-- Widening changes no element. -/
theorem widened_apply (x : Vec Ideal S1x128x128 .bf16) (s d : Fin 128) : k0_pay6 x (ix2 s d) = x (ix3 0 s d) := by
  pointwise [k0_pay6]

/-- Element by element they are the head. -/
theorem valueRaw_apply (x : Vec Ideal S1x2048x512 .bf16) (t : Fin k0_t1_loop.trips) (h : Fin 4) (s d : Fin 128) :
    valueRaw x t h (ix2 s d) = heads x h (token t s) d := by
  match h with
  | ⟨0, _⟩ => exact (widened_apply (head0 x t) s d).trans (head0_apply x t s d)
  | ⟨1, _⟩ => exact (widened_apply (head1 x t) s d).trans (head1_apply x t s d)
  | ⟨2, _⟩ => exact (widened_apply (head2 x t) s d).trans (head2_apply x t s d)
  | ⟨3, _⟩ => exact (widened_apply (head3 x t) s d).trans (head3_apply x t s d)

/-- Each head's store is its tile. -/
theorem storedV0 (y : FVec Ideal S128x128 .f32) : k0_pay7 y = shapeCast S128x128 y shapeCasts_S128x128_S128x128 := rfl
/-- So is the second head's, -/
theorem storedV1 (x : Vec Ideal S1x128x128 .bf16) : k0_pay13 x = shapeCast S128x128 (k0_pay6 x) shapeCasts_S128x128_S128x128 := rfl
/-- the third's, -/
theorem storedV2 (x : Vec Ideal S1x128x128 .bf16) : k0_pay19 x = shapeCast S128x128 (k0_pay6 x) shapeCasts_S128x128_S128x128 := rfl
/-- and the fourth's. -/
theorem storedV3 (x : Vec Ideal S1x128x128 .bf16) : k0_pay125 x = shapeCast S128x128 (k0_pay6 x) shapeCasts_S128x128_S128x128 := rfl

/-- The stored value tiles. -/
theorem valueTiles_apply (x : Vec Ideal S1x2048x512 .bf16) (t : Fin k0_t1_loop.trips) (h : Fin 4) (s d : Fin 128) :
    valueTiles x t h (ix2 s d) = heads x h (token t s) d := by
  rw [← valueRaw_apply]
  unfold valueTiles valueRaw
  match h with
  | ⟨0, _⟩ => show k0_pay7 (k0_pay6 (head0 x t)) (ix2 s d) = k0_pay6 (head0 x t) (ix2 s d)
              rw [storedV0, same_apply]
  | ⟨1, _⟩ => show k0_pay13 (head1 x t) (ix2 s d) = k0_pay6 (head1 x t) (ix2 s d)
              rw [storedV1, same_apply]
  | ⟨2, _⟩ => show k0_pay19 (head2 x t) (ix2 s d) = k0_pay6 (head2 x t) (ix2 s d)
              rw [storedV2, same_apply]
  | ⟨3, _⟩ => show k0_pay125 (head3 x t) (ix2 s d) = k0_pay6 (head3 x t) (ix2 s d)
              rw [storedV3, same_apply]

end Cert.Proof.KernelIdeal

end
-- ==== Proof.Greatest.lean ====
/-
  The running maxima and what comes of them: after sixteen trips the eight maxima, reduced over rows and lanes, are each
  head's greatest absolute value (`keyAbs_eq`, `valueAbs_eq`).
-/
module

public import proofs.«01_k».proof.Proof.Tiles

@[expose] public section

noncomputable section

namespace Cert.Proof.KernelIdeal

open Cert.KernelIdeal Cert.KernelIdeal.Gen
open Idealize.ShloMosaic Cert.Proof.Exponent Cert.Proof.Spec

/-- The word of minus infinity. -/
theorem ofBits_bot : Ideal.ofBits .f32 0xFF800000#32 = ⊥ := by simp [Ideal.ofBits, Ideal.ieee]

/-! ## The running maxima -/

/-- Sixteen tiles of eight rows reduced to their elementwise greatest absolute value, and the running maximum with it. -/
def fold8 (a : FVec Ideal S8x128 .f32) (y : FVec Ideal S128x128 .f32) : FVec Ideal S8x128 .f32 :=
  maximumf a (multiReduction .maximumf [0] S8x128 (shapeCast S16x8x128 (absf y) shapeCasts_S128x128_S16x8x128) 0xFF800000#32 reduces_S16x8x128_S8x128 (.inl rfl) rfl)

/-- It is at most `c` when the maximum before was and every absolute value folded in is. -/
theorem fold8_le (a : FVec Ideal S8x128 .f32) (y : FVec Ideal S128x128 .f32) (r : Fin 8) (l : Fin 128) (c : EReal) :
    fold8 a y (ix2 r l) ≤ c ↔ a (ix2 r l) ≤ c ∧ ∀ g : Fin 16, mag (y (ix2 ⟨g.val * 8 + r.val, by omega⟩ l)) ≤ c := by
  have e : fold8 a y (ix2 r l) = max (a (ix2 r l)) (Finset.fold max (Ideal.ofBits FTy.f32 4286578688#32)
      (fun g : Fin 16 => mag (y (ix2 ⟨g.val * 8 + r.val, by omega⟩ l))) Finset.univ) := by
    pointwise [fold8]
    rfl
  rw [e, max_le_iff, Finset.fold_max_le, ofBits_bot]
  simp

/-- The four maxima of the keys. -/
def keyMax (a : Maxima Ideal) : Fin 4 → FVec Ideal S8x128 .f32 := ![a.1, a.2.1, a.2.2.1, a.2.2.2.1]
/-- The four maxima of the values. -/
def valueMax (a : Maxima Ideal) : Fin 4 → FVec Ideal S8x128 .f32 := ![a.2.2.2.2.1, a.2.2.2.2.2.1, a.2.2.2.2.2.2.1, a.2.2.2.2.2.2.2]

/-- The kernel's fold of the first head's rotated keys, -/
theorem fold_k0 (a : FVec Ideal S8x128 .f32) (v0 : IVec S128x128 32) (v11 : FVec Ideal S128x128 .f32) (P : Vec Ideal S1x8x128 .i32)
    (x : Vec Ideal S1x128x128 .bf16) :
    k0_pay8 a (k0_pay4 v0 v11 P x) = fold8 a (k0_pay22 (k0_pay2 v11 P) (k0_pay3 v0 v11 P) x) := rfl
/-- of the second's, -/
theorem fold_k1 (a : FVec Ideal S8x128 .f32) (u w : FVec Ideal S128x128 .f32) (x : Vec Ideal S1x128x128 .bf16) :
    k0_pay14 a u w x = fold8 a (k0_pay22 u w x) := rfl
/-- of the third's, -/
theorem fold_k2 (a : FVec Ideal S8x128 .f32) (u w : FVec Ideal S128x128 .f32) (x : Vec Ideal S1x128x128 .bf16) :
    k0_pay20 a u w x = fold8 a (k0_pay22 u w x) := rfl
/-- of the fourth's, -/
theorem fold_k3 (a : FVec Ideal S8x128 .f32) (y : FVec Ideal S128x128 .f32) : k0_pay126 a y = fold8 a y := rfl
/-- of the first head's values, -/
theorem fold_v0 (a : FVec Ideal S8x128 .f32) (y : FVec Ideal S128x128 .f32) : k0_pay9 a y = fold8 a y := rfl
/-- of the second's, -/
theorem fold_v1 (a : FVec Ideal S8x128 .f32) (x : Vec Ideal S1x128x128 .bf16) : k0_pay15 a x = fold8 a (k0_pay6 x) := rfl
/-- of the third's, -/
theorem fold_v2 (a : FVec Ideal S8x128 .f32) (x : Vec Ideal S1x128x128 .bf16) : k0_pay21 a x = fold8 a (k0_pay6 x) := rfl
/-- and of the fourth's, is that fold. -/
theorem fold_v3 (a : FVec Ideal S8x128 .f32) (x : Vec Ideal S1x128x128 .bf16) : k0_pay127 a x = fold8 a (k0_pay6 x) := rfl

/-- One trip folds in its tile of rotated keys, and -/
theorem yield_key (i : grid0.Coords) (X : Vec Ideal S80x8x128 .i32) (x2 x3 : Vec Ideal S1x2048x512 .bf16)
    (t : Fin k0_t1_loop.trips) (a : Maxima Ideal) (h : Fin 4) :
    keyMax (yield i lanes k0_pay25 X x2 x3 t a) h = fold8 (keyMax a h) (keyRot i X x2 t h) := by
  unfold yield keyMax keyRot
  match h with
  | ⟨0, _⟩ => show k0_pay8 _ (k0_pay4 _ _ _ (head0 x2 t)) = fold8 _ (k0_pay22 _ _ (head0 x2 t)); rw [fold_k0]; rfl
  | ⟨1, _⟩ => show k0_pay14 _ _ _ (head1 x2 t) = fold8 _ (k0_pay22 _ _ (head1 x2 t)); rw [fold_k1]; rfl
  | ⟨2, _⟩ => show k0_pay20 _ _ _ (head2 x2 t) = fold8 _ (k0_pay22 _ _ (head2 x2 t)); rw [fold_k2]; rfl
  | ⟨3, _⟩ => show k0_pay126 _ (k0_pay22 _ _ (head3 x2 t)) = fold8 _ (k0_pay22 _ _ (head3 x2 t)); rw [fold_k3]; rfl

/-- its tile of values. -/
theorem yield_value (i : grid0.Coords) (X : Vec Ideal S80x8x128 .i32) (x2 x3 : Vec Ideal S1x2048x512 .bf16)
    (t : Fin k0_t1_loop.trips) (a : Maxima Ideal) (h : Fin 4) :
    valueMax (yield i lanes k0_pay25 X x2 x3 t a) h = fold8 (valueMax a h) (valueRaw x3 t h) := by
  unfold yield valueMax valueRaw
  match h with
  | ⟨0, _⟩ => show k0_pay9 _ (k0_pay6 (head0 x3 t)) = fold8 _ (k0_pay6 (head0 x3 t)); rw [fold_v0]; rfl
  | ⟨1, _⟩ => show k0_pay15 _ (head1 x3 t) = fold8 _ (k0_pay6 (head1 x3 t)); rw [fold_v1]; rfl
  | ⟨2, _⟩ => show k0_pay21 _ (head2 x3 t) = fold8 _ (k0_pay6 (head2 x3 t)); rw [fold_v2]; rfl
  | ⟨3, _⟩ => show k0_pay127 _ (head3 x3 t) = fold8 _ (k0_pay6 (head3 x3 t)); rw [fold_v3]; rfl

/-- The maxima at zero. -/
abbrev zeros : Maxima Ideal := (k0_pay122 (F := Ideal), k0_pay122 (F := Ideal), k0_pay122 (F := Ideal), k0_pay122 (F := Ideal), k0_pay122 (F := Ideal), k0_pay122 (F := Ideal), k0_pay122 (F := Ideal), k0_pay122 (F := Ideal))

/-- The kernel's initial maximum is zero. -/
theorem zero_apply (r : Fin 8) (l : Fin 128) : k0_pay122 (F := Ideal) (ix2 r l) = 0 := by
  show Ideal.ofBits .f32 0x00000000#32 = 0
  rw [ofBits_zero]; rfl
/-- So are the four of the keys, -/
theorem zeros_key (h : Fin 4) (r : Fin 8) (l : Fin 128) : keyMax zeros h (ix2 r l) = 0 := by
  match h with
  | ⟨0, _⟩ => exact zero_apply r l
  | ⟨1, _⟩ => exact zero_apply r l
  | ⟨2, _⟩ => exact zero_apply r l
  | ⟨3, _⟩ => exact zero_apply r l
/-- and the four of the values. -/
theorem zeros_value (h : Fin 4) (r : Fin 8) (l : Fin 128) : valueMax zeros h (ix2 r l) = 0 := by
  match h with
  | ⟨0, _⟩ => exact zero_apply r l
  | ⟨1, _⟩ => exact zero_apply r l
  | ⟨2, _⟩ => exact zero_apply r l
  | ⟨3, _⟩ => exact zero_apply r l

/-- Before trip `k`, a key maximum is at most `c` when `c` bounds zero and every rotated key of the trips before. -/
theorem keyMax_le (i : grid0.Coords) (p : Vec Ideal S5x2048 .i32) (x2 x3 : Vec Ideal S1x2048x512 .bf16) (h : Fin 4) (r : Fin 8)
    (l : Fin 128) (c : EReal) : ∀ k, k ≤ k0_t1_loop.trips →
      (keyMax (maximaTo i lanes k0_pay25 (posAll p) x2 x3 zeros k) h (ix2 r l) ≤ c
        ↔ 0 ≤ c ∧ ∀ t : Fin k0_t1_loop.trips, t.val < k → ∀ g : Fin 16, mag (rotHeads i p x2 h (token t ⟨g.val * 8 + r.val, by omega⟩) l) ≤ c)
  | 0, _ => by
    rw [maximaTo, zeros_key]; simp
  | k + 1, hk => by
    have hk' : k < k0_t1_loop.trips := hk
    rw [maximaTo, dif_pos hk', yield_key, fold8_le, keyMax_le i p x2 x3 h r l c k (Nat.le_of_lt hk')]
    simp only [keyRot_apply]
    constructor
    · rintro ⟨⟨h0, h1⟩, h2⟩
      refine ⟨h0, fun t ht => ?_⟩
      rcases Nat.lt_succ_iff_lt_or_eq.mp ht with hlt | rfl
      · exact h1 t hlt
      · exact h2
    · rintro ⟨h0, h1⟩
      exact ⟨⟨h0, fun t ht => h1 t (Nat.lt_succ_of_lt ht)⟩, h1 ⟨k, hk'⟩ (Nat.lt_succ_self k)⟩

/-- Likewise the values'. -/
theorem valueMax_le (i : grid0.Coords) (p : Vec Ideal S5x2048 .i32) (x2 x3 : Vec Ideal S1x2048x512 .bf16) (h : Fin 4) (r : Fin 8)
    (l : Fin 128) (c : EReal) : ∀ k, k ≤ k0_t1_loop.trips →
      (valueMax (maximaTo i lanes k0_pay25 (posAll p) x2 x3 zeros k) h (ix2 r l) ≤ c
        ↔ 0 ≤ c ∧ ∀ t : Fin k0_t1_loop.trips, t.val < k → ∀ g : Fin 16, mag (heads x3 h (token t ⟨g.val * 8 + r.val, by omega⟩) l) ≤ c)
  | 0, _ => by
    rw [maximaTo, zeros_value]; simp
  | k + 1, hk => by
    have hk' : k < k0_t1_loop.trips := hk
    rw [maximaTo, dif_pos hk', yield_value, fold8_le, valueMax_le i p x2 x3 h r l c k (Nat.le_of_lt hk')]
    simp only [valueRaw_apply]
    constructor
    · rintro ⟨⟨h0, h1⟩, h2⟩
      refine ⟨h0, fun t ht => ?_⟩
      rcases Nat.lt_succ_iff_lt_or_eq.mp ht with hlt | rfl
      · exact h1 t hlt
      · exact h2
    · rintro ⟨h0, h1⟩
      exact ⟨⟨h0, fun t ht => h1 t (Nat.lt_succ_of_lt ht)⟩, h1 ⟨k, hk'⟩ (Nat.lt_succ_self k)⟩

/-- A bound on sixteen trips of sixteen groups of eight rows is a bound on all 2048 tokens. -/
theorem all_tokens (y : Fin 2048 → Fin 128 → EReal) (c : EReal) :
    (∀ (r : Fin 8) (l : Fin 128), 0 ≤ c ∧ ∀ t : Fin k0_t1_loop.trips, t.val < k0_t1_loop.trips → ∀ g : Fin 16,
        mag (y (token t ⟨g.val * 8 + r.val, by omega⟩) l) ≤ c) ↔ greatest y ≤ c := by
  rw [greatest_le]
  constructor
  · intro H T d
    have hT := T.isLt
    have ht : T.val / 128 < k0_t1_loop.trips := by rw [trips1]; omega
    have := (H ⟨T.val % 8, by omega⟩ d).2 ⟨T.val / 128, ht⟩ ht ⟨T.val % 128 / 8, by omega⟩
    have e : token ⟨T.val / 128, ht⟩ ⟨T.val % 128 / 8 * 8 + T.val % 8, by omega⟩ = T :=
      Fin.ext (by show 128 * (T.val / 128) + (T.val % 128 / 8 * 8 + T.val % 8) = T.val; omega)
    rwa [e] at this
  · intro H r l
    exact ⟨(mag_nonneg _).trans (H 0 0), fun t _ g => H _ _⟩

/-! ## The maxima over rows and lanes -/

/-- All 8 × 128 elements' greatest. -/
def whole (a : FVec Ideal S8x128 .f32) : EReal :=
  Finset.fold max (Ideal.ofBits FTy.f32 4286578688#32) (fun x : Fin 8 × Fin 128 => a (ix2 x.1 x.2)) Finset.univ
/-- It is at most `c` when every element is. -/
theorem whole_le (a : FVec Ideal S8x128 .f32) (c : EReal) : whole a ≤ c ↔ ∀ r l, a (ix2 r l) ≤ c := by
  unfold whole
  rw [Finset.fold_max_le, ofBits_bot]
  simp [Prod.forall]

/-- Head `h` of row `r`. -/
abbrev headOf (r : Fin 8) : Fin 4 := ⟨r.val % 4, by omega⟩

/-- The kernel's test of a row for head `h` says whether the row is of that head. -/
theorem rowHead : ∀ (r : Fin 8) (h : Fin 4), IntOp.cmpi .eq (IntOp.andi (BitVec.ofNat 32 r.val) 3#32) (BitVec.ofNat 32 h.val)
    = BitVec.ofBool (decide (headOf r = h)) := by decide +kernel

/-- Four candidates chosen by the row's head. -/
theorem choose (A : Fin 4 → EReal) (z : EReal) (r : Fin 8) :
    Scalar.select (IntOp.cmpi .eq (IntOp.andi (BitVec.ofNat 32 r.val) 3#32) 3#32) (A 3)
      (Scalar.select (IntOp.cmpi .eq (IntOp.andi (BitVec.ofNat 32 r.val) 3#32) 2#32) (A 2)
        (Scalar.select (IntOp.cmpi .eq (IntOp.andi (BitVec.ofNat 32 r.val) 3#32) 1#32) (A 1)
          (Scalar.select (IntOp.cmpi .eq (IntOp.andi (BitVec.ofNat 32 r.val) 3#32) 0#32) (A 0) z))) = A (headOf r) := by
  have H := rowHead r
  have h3 := H 3
  have h2 := H 2
  have h1 := H 1
  have h0 := H 0
  generalize headOf r = h at *
  show Scalar.select (IntOp.cmpi .eq (IntOp.andi (BitVec.ofNat 32 r.val) 3#32) (BitVec.ofNat 32 (3 : Fin 4).val)) (A 3)
      (Scalar.select (IntOp.cmpi .eq (IntOp.andi (BitVec.ofNat 32 r.val) 3#32) (BitVec.ofNat 32 (2 : Fin 4).val)) (A 2)
        (Scalar.select (IntOp.cmpi .eq (IntOp.andi (BitVec.ofNat 32 r.val) 3#32) (BitVec.ofNat 32 (1 : Fin 4).val)) (A 1)
          (Scalar.select (IntOp.cmpi .eq (IntOp.andi (BitVec.ofNat 32 r.val) 3#32) (BitVec.ofNat 32 (0 : Fin 4).val)) (A 0) z))) = A h
  rw [h3, h2, h1, h0]
  fin_cases h <;> simp [Scalar.select]

/-- Row `r` of the keys' maxima is the whole of its head's maximum, -/
theorem keyAbs_apply (a : Maxima Ideal) (r : Fin 8) (l : Fin 128) : keyAbs a (ix2 r l) = whole (keyMax a (headOf r)) := by
  rw [← choose (fun h => whole (keyMax a h)) 0 r]
  obtain ⟨a0, a1, a2, a3, a4, a5, a6, a7⟩ := a
  pointwise [keyAbs, k0_pay130, k0_pay129, k0_pay128]
  rfl

/-- and so of the values' maxima. -/
theorem valueAbs_apply (a : Maxima Ideal) (r : Fin 8) (l : Fin 128) : valueAbs a (ix2 r l) = whole (valueMax a (headOf r)) := by
  rw [← choose (fun h => whole (valueMax a h)) 0 r]
  obtain ⟨a0, a1, a2, a3, a4, a5, a6, a7⟩ := a
  pointwise [valueAbs, k0_pay140, k0_pay139]
  rfl

/-- Row `r` of the keys' maxima is its head's greatest absolute rotated key. -/
theorem keyAbs_eq (i : grid0.Coords) (p : Vec Ideal S5x2048 .i32) (x2 x3 : Vec Ideal S1x2048x512 .bf16) (r : Fin 8) (l : Fin 128) :
    keyAbs (maxima i p x2 x3) (ix2 r l) = greatest (rotHeads i p x2 (headOf r)) := by
  rw [keyAbs_apply]
  refine eq_of_forall_ge_iff fun c => ?_
  rw [whole_le, ← all_tokens]
  refine forall_congr' fun r' => forall_congr' fun l' => ?_
  exact keyMax_le i p x2 x3 (headOf r) r' l' c k0_t1_loop.trips (le_refl _)

/-- Row `r` of the values' maxima is its head's greatest absolute value. -/
theorem valueAbs_eq (i : grid0.Coords) (p : Vec Ideal S5x2048 .i32) (x2 x3 : Vec Ideal S1x2048x512 .bf16) (r : Fin 8) (l : Fin 128) :
    valueAbs (maxima i p x2 x3) (ix2 r l) = greatest (heads x3 (headOf r)) := by
  rw [valueAbs_apply]
  refine eq_of_forall_ge_iff fun c => ?_
  rw [whole_le, ← all_tokens]
  refine forall_congr' fun r' => forall_congr' fun l' => ?_
  exact valueMax_le i p x2 x3 (headOf r) r' l' c k0_t1_loop.trips (le_refl _)

end Cert.Proof.KernelIdeal

end
-- ==== Proof.Scales.lean ====
/-
  From the greatest absolute values to what the body leaves: the scales (`keyScales_eq`, `valueScales_eq`) and the codes
  (`keyCodes_eq`, `valueCodes_eq`) of one sequence, as the specification states them, for bounded inputs.
-/
module

public import proofs.«01_k».proof.Proof.Greatest

@[expose] public section

noncomputable section

namespace Cert.Proof.KernelIdeal

open Cert.KernelIdeal Cert.KernelIdeal.Gen
open Idealize.ShloMosaic Cert.Proof.Exponent Cert.Proof.Spec

/-! ## The search on vectors -/

/-- The float of each exponent field. -/
def vpower (f : IVec S8x128 32) : FVec Ideal S8x128 .f32 := bitcastToFloat .f32 (shli f (broadcast S8x128 23#32))
/-- One step of the search, on vectors. -/
def vstep (q : FVec Ideal S8x128 .f32) (bit : BitVec 32) (f : IVec S8x128 32) : IVec S8x128 32 :=
  select (cmpf .olt q (vpower (addi f (broadcast S8x128 bit)))) f (addi f (broadcast S8x128 bit))
/-- The exponent from the field found. -/
def vexp (a : FVec Ideal S8x128 .f32) (f : IVec S8x128 32) : IVec S8x128 32 :=
  select (cmpf .oeq a (broadcast S8x128 (Scalar.ofBits (F := Ideal) .f32 0x00000000#32))) (broadcast S8x128 0#32) (subi f (broadcast S8x128 126#32))

/-- It is `power` elementwise. -/
theorem vpower_apply (f : IVec S8x128 32) (j : S8x128.Idx) : vpower f j = power (f j) := rfl
/-- It is `step` elementwise. -/
theorem vstep_apply (q : FVec Ideal S8x128 .f32) (bit : BitVec 32) (f : IVec S8x128 32) (j : S8x128.Idx) :
    vstep q bit f j = step (q j) bit (f j) := rfl

/-- The eight steps. -/
def vsearch (q : FVec Ideal S8x128 .f32) : IVec S8x128 32 :=
  vstep q 1#32 (vstep q 2#32 (vstep q 4#32 (vstep q 8#32 (vstep q 16#32 (vstep q 32#32 (vstep q 64#32 (vstep q 128#32 (broadcast S8x128 0#32))))))))
/-- They are `search` elementwise. -/
theorem vsearch_apply (q : FVec Ideal S8x128 .f32) (j : S8x128.Idx) : vsearch q j = search (q j) := by
  unfold vsearch search
  simp only [vstep_apply]
  rfl
/-- From the field that the search finds it is `searchExponent` elementwise. -/
theorem vexp_apply (a q : FVec Ideal S8x128 .f32) (j : S8x128.Idx) : vexp a (vsearch q) j = searchExponent (a j) (q j) := by
  have e : vexp a (vsearch q) j = Scalar.select (Ideal.cmp .oeq (a j) (Ideal.ofBits .f32 0x00000000#32)) 0#32 (vsearch q j - 126#32) := rfl
  rw [e, vsearch_apply]; rfl

/-! ## The keys -/

/-- The kernel's first two steps for the keys, -/
theorem k132 (b : FVec Ideal S8x128 .f32) (w : IVec S8x128 32) (c : FVec Ideal S8x128 .f32) (d : FVec Ideal S1x8x128 .f32) :
    k0_pay132 b w c d = vstep (k0_pay131 b w c d) 64#32 (vstep (k0_pay131 b w c d) 128#32 (broadcast S8x128 0#32)) := rfl
/-- its next five, -/
theorem k134 (q : FVec Ideal S8x128 .f32) (f : IVec S8x128 32) :
    k0_pay134 q f k0_pay133 = vstep q 2#32 (vstep q 4#32 (vstep q 8#32 (vstep q 16#32 (vstep q 32#32 f)))) := rfl
/-- and its last step and the exponent. -/
theorem k136 (a q : FVec Ideal S8x128 .f32) (f : IVec S8x128 32) : k0_pay136 a q f k0_pay135 = vexp a (vstep q 1#32 f) := rfl

/-- The keys' exponents are those of the search. -/
theorem key136 (a : Maxima Ideal) : k0_pay136 (keyAbs a) (keyQuot a) (keyField a) k0_pay135 = vexp (keyAbs a) (vsearch (keyQuot a)) := by
  rw [k136]; unfold keyField; rw [k134, k132]; rfl

/-- The search is of the maximum times the float nearest 1/448. -/
theorem keyQuot_apply (a : Maxima Ideal) (j : S8x128.Idx) : keyQuot a j = keyAbs a j * Ideal.ofBits .f32 0x3B124925#32 := rfl

/-- A row of the keys' scales is the scale that the search gives. -/
theorem keyScales_apply (a : Maxima Ideal) (r : Fin 8) (l : Fin 128) :
    keyScales a (ix3 0 r l) = searchScale (keyAbs a (ix2 r l)) (keyAbs a (ix2 r l) * Ideal.ofBits .f32 0x3B124925#32) := by
  have e : keyScales a (ix3 0 r l) = power (k0_pay136 (keyAbs a) (keyQuot a) (keyField a) k0_pay135 (ix2 r l) + 127#32) := by
    unfold keyScales k0_pay137
    generalize k0_pay136 (keyAbs a) (keyQuot a) (keyField a) k0_pay135 = f
    pointwise []
    rfl
  rw [e, key136, vexp_apply, keyQuot_apply]
  rfl

/-- A row of the keys' inverse scales is the inverse that the search gives. -/
theorem keyInv_apply (a : Maxima Ideal) (r : Fin 8) (l : Fin 128) :
    keyInv a (ix2 r l) = searchInverse (keyAbs a (ix2 r l)) (keyAbs a (ix2 r l) * Ideal.ofBits .f32 0x3B124925#32) := by
  have e : keyInv a (ix2 r l) = power (0#32 - k0_pay136 (keyAbs a) (keyQuot a) (keyField a) k0_pay135 (ix2 r l) + 127#32) := by
    unfold keyInv k0_pay138
    generalize k0_pay136 (keyAbs a) (keyQuot a) (keyField a) k0_pay135 = f
    rfl
  rw [e, key136, vexp_apply, keyQuot_apply]
  rfl

/-! ## The values -/

/-- The kernel's first comparison for the values, -/
theorem v143 (b c d : FVec Ideal S8x128 .f32) (w : IVec S8x128 32) (e : FVec Ideal S8x128 .f32) :
    k0_pay143 b c d w e = cmpf .olt (k0_pay141 b c d w e) (vpower (addi k0_pay142 (broadcast S8x128 128#32))) := rfl
/-- its first five steps, -/
theorem v145 (q : FVec Ideal S8x128 .f32) :
    k0_pay145 q k0_pay142 (cmpf .olt q (vpower (addi k0_pay142 (broadcast S8x128 128#32)))) k0_pay144
      = vstep q 8#32 (vstep q 16#32 (vstep q 32#32 (vstep q 64#32 (vstep q 128#32 (broadcast S8x128 0#32))))) := rfl
/-- the comparison of the sixth, -/
theorem v146 (q : FVec Ideal S8x128 .f32) (z : IVec S8x128 32) (b : IVec S8x128 1) (w : IVec S8x128 32) :
    k0_pay146 q z b w = cmpf .olt q (vpower (addi (k0_pay145 q z b w) (broadcast S8x128 4#32))) := rfl
/-- and its last three steps and the exponent. -/
theorem v148 (a q : FVec Ideal S8x128 .f32) (f : IVec S8x128 32) :
    k0_pay148 a q f (cmpf .olt q (vpower (addi f (broadcast S8x128 4#32)))) k0_pay147 = vexp a (vstep q 1#32 (vstep q 2#32 (vstep q 4#32 f))) := rfl

/-- The values' exponents are those of the search. -/
theorem value148 (a : Maxima Ideal) : k0_pay148 (valueAbs a) (valueQuot a) (valueField a) (valueSixth a) k0_pay147
    = vexp (valueAbs a) (vsearch (valueQuot a)) := by
  have h1 : valueSixth a = cmpf .olt (valueQuot a) (vpower (addi (valueField a) (broadcast S8x128 4#32))) := v146 _ _ _ _
  have h2 : valueFirst a = cmpf .olt (valueQuot a) (vpower (addi k0_pay142 (broadcast S8x128 128#32))) := v143 _ _ _ _ _
  rw [h1, v148]
  unfold valueField
  rw [h2, v145]
  rfl

/-- The search is of the maximum times the float nearest 1/448. -/
theorem valueQuot_apply (a : Maxima Ideal) (j : S8x128.Idx) : valueQuot a j = valueAbs a j * Ideal.ofBits .f32 0x3B124925#32 := rfl

/-- A row of the values' scales is the scale that the search gives. -/
theorem valueScales_apply (a : Maxima Ideal) (r : Fin 8) (l : Fin 128) :
    valueScales a (ix3 0 r l) = searchScale (valueAbs a (ix2 r l)) (valueAbs a (ix2 r l) * Ideal.ofBits .f32 0x3B124925#32) := by
  have e : valueScales a (ix3 0 r l) = power (k0_pay148 (valueAbs a) (valueQuot a) (valueField a) (valueSixth a) k0_pay147 (ix2 r l) + 127#32) := by
    unfold valueScales k0_pay149
    generalize k0_pay148 (valueAbs a) (valueQuot a) (valueField a) (valueSixth a) k0_pay147 = f
    pointwise []
    rfl
  rw [e, value148, vexp_apply, valueQuot_apply]
  rfl

/-- A row of the values' inverse scales is the inverse that the search gives. -/
theorem valueInv_apply (a : Maxima Ideal) (r : Fin 8) (l : Fin 128) :
    valueInv a (ix2 r l) = searchInverse (valueAbs a (ix2 r l)) (valueAbs a (ix2 r l) * Ideal.ofBits .f32 0x3B124925#32) := by
  have e : valueInv a (ix2 r l) = power (0#32 - k0_pay148 (valueAbs a) (valueQuot a) (valueField a) (valueSixth a) k0_pay147 (ix2 r l) + 127#32) := by
    unfold valueInv k0_pay150
    generalize k0_pay148 (valueAbs a) (valueQuot a) (valueField a) (valueSixth a) k0_pay147 = f
    rfl
  rw [e, value148, vexp_apply, valueQuot_apply]
  rfl

/-! ## The codes -/

/-- A tile of codes at an element: the row of the token and head, times the inverse of the head's row, clipped. -/
theorem code_apply (v : FVec Ideal S8x128 .f32) (Y : Vec Ideal S512x128 .f32) (s : Fin 128) (h : Fin 4) (d : Fin 128) :
    k0_pay23 v Y (ix4 0 s h d) = min (Ideal.ofBits .f32 0x43E00000#32) (max (Ideal.ofBits .f32 0xC3E00000#32)
      (Y (ix2 ⟨4 * s.val + h.val, by have := s.isLt; have := h.isLt; omega⟩ d) * v (ix2 ⟨(4 * s.val + h.val) % 8, by omega⟩ d))) := by
  pointwise [k0_pay23]
  have e1 : (⟨(s.val * 4 + h.val) / 8 * 8 + (s.val * 4 + h.val) % 8, by have := s.isLt; have := h.isLt; omega⟩ : Fin 512)
      = ⟨4 * s.val + h.val, by have := s.isLt; have := h.isLt; omega⟩ := Fin.ext (by show (s.val * 4 + h.val) / 8 * 8 + (s.val * 4 + h.val) % 8 = 4 * s.val + h.val; omega)
  have e2 : (⟨(s.val * 4 + h.val) % 8, by omega⟩ : Fin 8) = ⟨(4 * s.val + h.val) % 8, by omega⟩ :=
    Fin.ext (by show (s.val * 4 + h.val) % 8 = (4 * s.val + h.val) % 8; omega)
  rw [e1, e2]
/-- The values' codes are computed as the keys' are. -/
theorem code_same (v : FVec Ideal S8x128 .f32) (Y : Vec Ideal S512x128 .f32) : k0_pay24 v Y = k0_pay23 v Y := rfl

/-- The rows of one trip, at a token and head. -/
theorem rows_apply (T : Tiles Ideal) (t : Fin k0_t2_loop.trips) (s : Fin 128) (h : Fin 4) (d : Fin 128) :
    View.ld (rows T) (Rect.unit (s := S8192x128) (k0_off7 t) S512x128.size (k0_off7_inb t))
        (ix2 ⟨4 * s.val + h.val, by have := s.isLt; have := h.isLt; omega⟩ d)
      = T ⟨t.val, Nat.lt_of_lt_of_eq (Nat.lt_of_lt_of_eq t.isLt trips2) trips1.symm⟩ h (ix2 s d) := by
  have ht : t.val < 16 := Nat.lt_of_lt_of_eq t.isLt trips2
  have hs := s.isLt
  have hh := h.isLt
  have e : View.ld (rows T) (Rect.unit (s := S8192x128) (k0_off7 t) S512x128.size (k0_off7_inb t))
        (ix2 ⟨4 * s.val + h.val, by omega⟩ d) = rows T (ix2 ⟨512 * t.val + (4 * s.val + h.val), by omega⟩ d) := by
    refine View.ld_unit_apply_of _ _ _ _ _ _ fun a => ?_
    refine Eq.trans ?_ (congrArg (· + _) (congrFun (k0_off7_eq t) a).symm)
    match a with
    | ⟨0, _⟩ => rfl
    | ⟨1, _⟩ => show d.val = 0 + d.val; omega
  rw [e]
  unfold rows
  have a1 : (⟨(512 * t.val + (4 * s.val + h.val)) / 512, Nat.lt_of_lt_of_eq (by omega : _ < 16) trips1.symm⟩ : Fin k0_t1_loop.trips) = ⟨t.val, Nat.lt_of_lt_of_eq (by omega : _ < 16) trips1.symm⟩ :=
    Fin.ext (by show (512 * t.val + (4 * s.val + h.val)) / 512 = t.val; omega)
  have a2 : (⟨(512 * t.val + (4 * s.val + h.val)) % 4, by omega⟩ : Fin 4) = h :=
    Fin.ext (by show (512 * t.val + (4 * s.val + h.val)) % 4 = h.val; omega)
  have a3 : (⟨(512 * t.val + (4 * s.val + h.val)) % 512 / 4, by omega⟩ : Fin 128) = s :=
    Fin.ext (by show (512 * t.val + (4 * s.val + h.val)) % 512 / 4 = s.val; omega)
  show T ⟨(512 * t.val + (4 * s.val + h.val)) / 512, _⟩ ⟨(512 * t.val + (4 * s.val + h.val)) % 4, _⟩
    (ValueIdx.ix2 ⟨(512 * t.val + (4 * s.val + h.val)) % 512 / 4, _⟩ d) = _
  rw [a1, a2, a3, ix2_eq_valueIdx]

/-- A token's rows of eight are of the heads in turn. -/
theorem head_row (s : ℕ) (h : Fin 4) : headOf ⟨(4 * s + h.val) % 8, by omega⟩ = h :=
  Fin.ext (by show (4 * s + h.val) % 8 % 4 = h.val; have := h.isLt; omega)

/-- The trip of a token in the second loop. -/
theorem trip_of (T : Fin 2048) : T.val / 128 < k0_t2_loop.trips := by rw [trips2]; have := T.isLt; omega
/-- A token is the one of its trip and row. -/
theorem token_of (T : Fin 2048) (hT) : token ⟨T.val / 128, hT⟩ ⟨T.val % 128, by omega⟩ = T :=
  Fin.ext (by show 128 * (T.val / 128) + T.val % 128 = T.val; omega)

/-- The block of codes at a token is its trip's tile. -/
theorem codes_apply (C : CodeTiles Ideal) (T : Fin 2048) (h : Fin 4) (d : Fin 128) :
    codes C (ix4 0 T h d) = C ⟨T.val / 128, trip_of T⟩ (ix4 0 ⟨T.val % 128, by omega⟩ h d) := by
  unfold codes
  rw [ix4_eq_valueIdx, ix4_eq_valueIdx]

section
variable (i : grid0.Coords) (p : Vec Ideal S5x2048 .i32) (x2 x3 : Vec Ideal S1x2048x512 .bf16) (M : ℝ)

/-- The keys' scales. -/
theorem keyScales_eq (hx : ∀ T l, Within M (x2 (ix3 0 T l))) (hM : M + M < 2 ^ 130) (r : Fin 8) (l : Fin 128) :
    keyScales (maxima i p x2 x3) (ix3 0 r l) = scale (greatest (rotHeads i p x2 (headOf r))) := by
  rw [keyScales_apply, keyAbs_eq]
  exact searchScale_eq_scale (M + M) hM _ fun T d => rot_within M _ (fun d => hx _ _) _ _

/-- The values' scales. -/
theorem valueScales_eq (hx : ∀ T l, Within M (x3 (ix3 0 T l))) (hM : M < 2 ^ 130) (r : Fin 8) (l : Fin 128) :
    valueScales (maxima i p x2 x3) (ix3 0 r l) = scale (greatest (heads x3 (headOf r))) := by
  rw [valueScales_apply, valueAbs_eq]
  exact searchScale_eq_scale M hM _ fun T d => hx _ _

/-- The keys' codes. -/
theorem keyCodes_eq (hx : ∀ T l, Within M (x2 (ix3 0 T l))) (hM : M + M < 2 ^ 130) (T : Fin 2048) (h : Fin 4) (d : Fin 128) :
    keyCodes i p x2 x3 (ix4 0 T h d) = code (greatest (rotHeads i p x2 h)) (rotHeads i p x2 h T d) := by
  unfold keyCodes
  rw [codes_apply]
  unfold keyCodesOf
  rw [code_apply, rows_apply, keyTiles_apply, keyInv_apply, keyAbs_eq, head_row, token_of,
    searchInverse_eq_inverse (M + M) hM _ fun T d => rot_within M _ (fun d => hx _ _) _ _]
  rfl

/-- The values' codes. -/
theorem valueCodes_eq (hx : ∀ T l, Within M (x3 (ix3 0 T l))) (hM : M < 2 ^ 130) (T : Fin 2048) (h : Fin 4) (d : Fin 128) :
    valueCodes i p x2 x3 (ix4 0 T h d) = code (greatest (heads x3 h)) (heads x3 h T d) := by
  unfold valueCodes
  rw [codes_apply]
  unfold valueCodesOf
  rw [code_same, code_apply, rows_apply, valueTiles_apply, valueInv_apply, valueAbs_eq, head_row, token_of,
    searchInverse_eq_inverse M hM _ fun T d => hx _ _]
  rfl

end

end Cert.Proof.KernelIdeal

end
-- ==== Proof.Results.lean ====
/-
  The four results as functions of the three arguments: the codes and the scales of the values' heads, and of the keys'
  heads after their rotation.
-/
module

public import proofs.«01_k».proof.Proof.Spec
public import Idealize.ShloMosaic.Lib.Pointwise

@[expose] public section

noncomputable section

namespace Cert.Proof.Spec

open Idealize.ShloMosaic

/-- The heads of an argument: token `T`'s 512 lanes are four heads of 128 lanes. -/
def headsOf (x : Fin 5 → Fin 2048 → Fin 512 → EReal) (b : Fin 5) (h : Fin 4) (T : Fin 2048) (d : Fin 128) : EReal :=
  x b T ⟨128 * h.val + d.val, by have := h.isLt; have := d.isLt; omega⟩
/-- The heads of the keys, rotated at their tokens' positions. -/
def rotOf (x : Fin 5 → Fin 2048 → Fin 512 → EReal) (p : Fin 5 → Fin 2048 → BitVec 32)
    (b : Fin 5) (h : Fin 4) (T : Fin 2048) (d : Fin 128) : EReal :=
  rot (headsOf x b h T) (p b T) d

/-- The codes of heads `y`: each element over its head's scale, clipped. -/
def codesOf (y : Fin 5 → Fin 4 → Fin 2048 → Fin 128 → EReal) : (⟨4, ![5, 2048, 4, 128]⟩ : Shape).Idx → EReal :=
  fun i => code (greatest (y (i 0) (i 2))) (y (i 0) (i 2) (i 1) (i 3))
/-- The scales of heads `y`. -/
def scalesOf (y : Fin 5 → Fin 4 → Fin 2048 → Fin 128 → EReal) : (⟨2, ![5, 4]⟩ : Shape).Idx → EReal :=
  fun i => scale (greatest (y (i 0) (i 1)))

end Cert.Proof.Spec

end
-- ==== Proof.Arrays.lean ====
/-
  The kernel's result arrays after its run, over extended reals: each grid point's blocks together are the results of
  `Results.lean`, the scales repeated over eight rows and 128 lanes, of which the host keeps four rows and one lane.
-/
module

public import proofs.«01_k».proof.Proof.RunKernelIdeal
public import proofs.«01_k».proof.Proof.Scales
public import proofs.«01_k».proof.Proof.Results
public import Idealize.ShloMosaic.Lib.Pipeline.ValueKit
public import Idealize.ShloMosaic.Lib.StableHlo.ReadAt

@[expose] public section

noncomputable section

namespace Cert.Proof.KernelIdeal

open Cert.KernelIdeal Cert.KernelIdeal.Gen Idealize.ShloMosaic Idealize.ShloMosaic.TcCoe Idealize.SL.Sem
open Idealize.ShloMosaic.Pipeline (Dat)
open Cert.Proof.Spec

variable (m : (ℓ : Loc nD τ sig) → Buf (Elt Ideal) ℓ)

/-- The keys as launched. -/
def keys (c : Dev nD) (b : Fin 5) (T : Fin 2048) (l : Fin 512) : EReal := m ((c : Thread nD τ).loc main_arg0) (ix3 b T l)
/-- The values as launched. -/
def vals (c : Dev nD) (b : Fin 5) (T : Fin 2048) (l : Fin 512) : EReal := m ((c : Thread nD τ).loc main_arg1) (ix3 b T l)
/-- The positions as launched. -/
def poss (c : Dev nD) (b : Fin 5) (T : Fin 2048) : BitVec 32 := m ((c : Thread nD τ).loc main_arg2) (ix2 b T)

/-- The positions' block is at the origin. -/
theorem at0 : ∀ t : Fin cfg0.N, win0_0.index t = ![0, 0] := (by decide +kernel : ∀ t : Fin grid0.N, _)
/-- The keys' block is that of the point's sequence. -/
theorem at1 : ∀ t : Fin cfg0.N, win0_1.index t = ![(seq (grid0.coords t)).val, 0, 0] := (by decide +kernel : ∀ t : Fin grid0.N, _)
/-- So is the values' block, -/
theorem at2 : ∀ t : Fin cfg0.N, win0_2.index t = ![(seq (grid0.coords t)).val, 0, 0] := (by decide +kernel : ∀ t : Fin grid0.N, _)
/-- the keys' codes' block, -/
theorem at3 : ∀ t : Fin cfg0.N, win0_3.index t = ![(seq (grid0.coords t)).val, 0, 0, 0] := (by decide +kernel : ∀ t : Fin grid0.N, _)
/-- the keys' scales' block, -/
theorem at4 : ∀ t : Fin cfg0.N, win0_4.index t = ![(seq (grid0.coords t)).val, 0, 0] := (by decide +kernel : ∀ t : Fin grid0.N, _)
/-- the values' codes' block, -/
theorem at5 : ∀ t : Fin cfg0.N, win0_5.index t = ![(seq (grid0.coords t)).val, 0, 0, 0] := (by decide +kernel : ∀ t : Fin grid0.N, _)
/-- and the values' scales' block. -/
theorem at6 : ∀ t : Fin cfg0.N, win0_6.index t = ![(seq (grid0.coords t)).val, 0, 0] := (by decide +kernel : ∀ t : Fin grid0.N, _)

/-- The positions' block is all of them. -/
theorem blk0 (c : Dev nD) (t : Fin cfg0.N) (b : Fin 5) (T : Fin 2048) : iblk m c 0 t (ix2 b T) = poss m c b T := by
  blk_simp [iblk]
  show m _ _ = m _ _
  congr 1
  blk_ext [at0]

/-- The keys' block at a point is its sequence. -/
theorem blk1 (c : Dev nD) (t : Fin cfg0.N) (T : Fin 2048) (l : Fin 512) :
    iblk m c 1 t (ix3 0 T l) = keys m c (seq (grid0.coords t)) T l := by
  blk_simp [iblk]
  show m _ _ = m _ _
  congr 1
  blk_ext [at1]

/-- So is the values' block. -/
theorem blk2 (c : Dev nD) (t : Fin cfg0.N) (T : Fin 2048) (l : Fin 512) :
    iblk m c 2 t (ix3 0 T l) = vals m c (seq (grid0.coords t)) T l := by
  blk_simp [iblk]
  show m _ _ = m _ _
  congr 1
  blk_ext [at2]

/-- The heads of a point's values. -/
theorem heads_eq (c : Dev nD) (t : Fin cfg0.N) (h : Fin 4) :
    heads (iblk m c 2 t) h = headsOf (vals m c) (seq (grid0.coords t)) h := by
  funext T d
  exact blk2 m c t T _

/-- The rotated heads of a point's keys. -/
theorem rotHeads_eq (c : Dev nD) (t : Fin cfg0.N) (h : Fin 4) :
    rotHeads (grid0.coords t) (iblk m c 0 t) (iblk m c 1 t) h = rotOf (keys m c) (poss m c) (seq (grid0.coords t)) h := by
  funext T d
  show rot (heads (iblk m c 1 t) h T) (iblk m c 0 t (ix2 (seq (grid0.coords t)) T)) d = rot (headsOf (keys m c) _ h T) (poss m c _ T) d
  rw [blk0]
  congr 1
  funext d
  exact blk1 m c t T _

variable (M : ℝ)

/-- The scales of heads `y`, each in its rows of eight and in all lanes. -/
def wide (y : Fin 5 → Fin 4 → Fin 2048 → Fin 128 → EReal) : S5x8x128.Idx → EReal :=
  fun i => scale (greatest (y (i 0) (headOf (i 1))))

/-- Rows 0 to 3 of lane 0 are the scales. -/
theorem narrow (y : Fin 5 → Fin 4 → Fin 2048 → Fin 128 → EReal) :
    shapeCast S5x4 (extractStridedSlice S5x4x1 ![0, 0, 0] (wide y) slices_S5x8x128_S5x4x1_0_0_0) shapeCasts_S5x4x1_S5x4
      = scalesOf y := by
  funext i
  obtain ⟨b, h, rfl⟩ : ∃ (b : Fin 5) (h : Fin 4), i = ix2 b h := ⟨_, _, eq_ix2 i⟩
  pointwise
  show scale (greatest (y b (headOf ⟨h.val, _⟩))) = scale (greatest (y b h))
  rw [show headOf ⟨h.val, by have := h.isLt; omega⟩ = h from Fin.ext (by show h.val % 4 = h.val; have := h.isLt; omega)]

/-- The arrays of the windows are distinct buffers. -/
theorem arrays_inj : Function.Injective (Pipeline.arrRef spec0) := by decide +kernel

/-- What the host's last lines leave of the keys' scales. -/
theorem tail2 (c : Dev nD) : Pipeline.afterTail₀ cfgs (dats m) 0 (V0 m) [hostOps1] c main_v2
    = shapeCast S5x4 (extractStridedSlice S5x4x1 ![0, 0, 0] ((dats m 0 c).arrAt 4 cfg0.N) slices_S5x8x128_S5x4x1_0_0_0) shapeCasts_S5x4x1_S5x4 := by
  unfold Pipeline.afterTail₀
  after_reads_simp
  exact congrArg (fun x : Vec Ideal S5x8x128 .f32 => shapeCast S5x4 (extractStridedSlice S5x4x1 ![0, 0, 0] x slices_S5x8x128_S5x4x1_0_0_0) shapeCasts_S5x4x1_S5x4)
    (Pipeline.withArrays_arr spec0 arrays_inj c (V0 m c) (fun w => (dats m 0 c).arrAt w (cfgs 0).N) 4)

/-- What the host's last lines leave of the values' scales. -/
theorem tail4 (c : Dev nD) : Pipeline.afterTail₀ cfgs (dats m) 0 (V0 m) [hostOps1] c main_v4
    = shapeCast S5x4 (extractStridedSlice S5x4x1 ![0, 0, 0] ((dats m 0 c).arrAt 6 cfg0.N) slices_S5x8x128_S5x4x1_0_0_0) shapeCasts_S5x4x1_S5x4 := by
  unfold Pipeline.afterTail₀
  after_reads_simp
  exact congrArg (fun x : Vec Ideal S5x8x128 .f32 => shapeCast S5x4 (extractStridedSlice S5x4x1 ![0, 0, 0] x slices_S5x8x128_S5x4x1_0_0_0) shapeCasts_S5x4x1_S5x4)
    (Pipeline.withArrays_arr spec0 arrays_inj c (V0 m c) (fun w => (dats m 0 c).arrAt w (cfgs 0).N) 6)

/-- The keys' codes. -/
theorem final3 (c : Dev nD) (hk : ∀ b T l, Within M (keys m c b T l)) (hM : M + M < 2 ^ 130) :
    (dats m 0 c).arrAt 3 cfg0.N = codesOf (rotOf (keys m c) (poss m c)) := by
  refine (dats m 0 c).arrAt_eq_of_covers 3 _ (by decide +kernel) fun t hf y => ?_
  blk_simp
  rw [after0_3]
  obtain ⟨z, T, h, d, rfl⟩ : ∃ (z : Fin 1) (T : Fin 2048) (h : Fin 4) (d : Fin 128), y = ix4 z T h d := ⟨_, _, _, _, eq_ix4 y⟩
  obtain rfl : z = 0 := Subsingleton.elim _ _
  rw [keyCodes_eq _ _ _ _ M (fun T l => by rw [blk1]; exact hk _ _ _) hM, rotHeads_eq]
  have e : (win0_3.blk t).view.emb (ix4 0 T h d) = ix4 (seq (grid0.coords t)) T h d := by blk_ext [at3]
  exact (congrArg (codesOf (rotOf (keys m c) (poss m c))) e).symm

/-- The values' codes. -/
theorem final5 (c : Dev nD) (hv : ∀ b T l, Within M (vals m c b T l)) (hM : M < 2 ^ 130) :
    (dats m 0 c).arrAt 5 cfg0.N = codesOf (headsOf (vals m c)) := by
  refine (dats m 0 c).arrAt_eq_of_covers 5 _ (by decide +kernel) fun t hf y => ?_
  blk_simp
  rw [after0_5]
  obtain ⟨z, T, h, d, rfl⟩ : ∃ (z : Fin 1) (T : Fin 2048) (h : Fin 4) (d : Fin 128), y = ix4 z T h d := ⟨_, _, _, _, eq_ix4 y⟩
  obtain rfl : z = 0 := Subsingleton.elim _ _
  rw [valueCodes_eq _ _ _ _ M (fun T l => by rw [blk2]; exact hv _ _ _) hM, heads_eq]
  have e : (win0_5.blk t).view.emb (ix4 0 T h d) = ix4 (seq (grid0.coords t)) T h d := by blk_ext [at5]
  exact (congrArg (codesOf (headsOf (vals m c))) e).symm

/-- The keys' scales, in every row and lane. -/
theorem final4 (c : Dev nD) (hk : ∀ b T l, Within M (keys m c b T l)) (hM : M + M < 2 ^ 130) :
    (dats m 0 c).arrAt 4 cfg0.N = wide (rotOf (keys m c) (poss m c)) := by
  refine (dats m 0 c).arrAt_eq_of_covers 4 _ (by decide +kernel) fun t hf y => ?_
  blk_simp
  rw [after0_4]
  obtain ⟨z, r, l, rfl⟩ : ∃ (z : Fin 1) (r : Fin 8) (l : Fin 128), y = ix3 z r l := ⟨_, _, _, eq_ix3 y⟩
  obtain rfl : z = 0 := Subsingleton.elim _ _
  rw [keyScales_eq _ _ _ _ M (fun T l => by rw [blk1]; exact hk _ _ _) hM, rotHeads_eq]
  have e : (win0_4.blk t).view.emb (ix3 0 r l) = ix3 (seq (grid0.coords t)) r l := by blk_ext [at4]
  exact (congrArg (wide (rotOf (keys m c) (poss m c))) e).symm

/-- The values' scales, in every row and lane. -/
theorem final6 (c : Dev nD) (hv : ∀ b T l, Within M (vals m c b T l)) (hM : M < 2 ^ 130) :
    (dats m 0 c).arrAt 6 cfg0.N = wide (headsOf (vals m c)) := by
  refine (dats m 0 c).arrAt_eq_of_covers 6 _ (by decide +kernel) fun t hf y => ?_
  blk_simp
  rw [after0_6]
  obtain ⟨z, r, l, rfl⟩ : ∃ (z : Fin 1) (r : Fin 8) (l : Fin 128), y = ix3 z r l := ⟨_, _, _, eq_ix3 y⟩
  obtain rfl : z = 0 := Subsingleton.elim _ _
  rw [valueScales_eq _ _ _ _ M (fun T l => by rw [blk2]; exact hv _ _ _) hM, heads_eq]
  have e : (win0_6.blk t).view.emb (ix3 0 r l) = ix3 (seq (grid0.coords t)) r l := by blk_ext [at6]
  exact (congrArg (wide (headsOf (vals m c))) e).symm

end Cert.Proof.KernelIdeal

end
-- ==== Proof.Finite.lean ====
/-
  What the precondition says: every key and every value is a real number, at most the greatest finite bfloat16 in size.
-/
module

public import proofs.«01_k».proof.Defs
public import proofs.«01_k».proof.Proof.Arrays
public import Idealize.ShloMosaic.Lib.ReduceAll
public import Idealize.ShloMosaic.Lib.Affine

@[expose] public section

noncomputable section

namespace Cert.Proof.Finite

open Idealize.ShloMosaic Idealize.SL.Sem Cert.Proof.Spec

/-- The shape relations the precondition's operations take. -/
theorem facts : Cert.Pre_finite.Facts where
  bitsLt_bf16_f32 := by decide
  bcast_S_S5x2048x512 := by decide
  reducesTo_S5x2048x512_S_d0_1_2 := by decide
  h_S_ := by decide

/-- The greatest finite bfloat16. -/
def top : ℝ := 255 * 2 ^ 120

/-- It is what the precondition's constant denotes. -/
theorem ofBits_top : Ideal.ofBits .f32 0x7F7F0000#32 = (top : EReal) := by
  simp [Ideal.ofBits, Ideal.ieee, top]; norm_cast

/-- Twice it is far below where the search for an exponent would leave its range. -/
theorem top_twice : top + top < 2 ^ 130 := by unfold top; norm_num
/-- So is it itself. -/
theorem top_once : top < 2 ^ 130 := by unfold top; norm_num

/-- An extended real whose absolute value compares at most `top` is a real number within it. -/
theorem within_of_cmp (x : EReal) (h : Ideal.cmp .ole (max x (-x)) (Ideal.ofBits .f32 0x7F7F0000#32) = 1#1) : Within top x := by
  rw [ofBits_top] at h
  have h : max x (-x) ≤ (top : EReal) := by
    by_contra hn
    simp [Ideal.cmp, hn] at h
  obtain ⟨h1, h2⟩ := max_le_iff.mp h
  induction x using EReal.rec with
  | bot => simp at h2
  | top => simp at h1
  | coe r =>
    refine ⟨r, rfl, abs_le.mpr ⟨?_, EReal.coe_le_coe_iff.mp h1⟩⟩
    have := EReal.coe_le_coe_iff.mp (show ((-r : ℝ) : EReal) ≤ (top : EReal) by simpa using h2)
    linarith

/-- The precondition's result has one index. -/
instance : Subsingleton Cert.Pre_finite.S_.Idx := ⟨fun a b => funext fun i => i.elim0⟩

/-- The precondition bounds every element of its first two arguments. -/
theorem bounds [Cert.Pre_finite.Facts] (k v : FVec Ideal Cert.Pre_finite.S5x2048x512 .bf16) (p : IVec Cert.Pre_finite.S5x2048 32)
    (h : Cert.Pre_finite.fn (F := Ideal) k v p = fun _ => 1#1) :
    (∀ i, Within top (k i)) ∧ ∀ i, Within top (v i) := by
  have e := congrFun h (fun i => i.elim0)
  dsimp only [Cert.Pre_finite.fn] at e
  obtain ⟨ek, ev⟩ := IntOp.andi_eq_one.mp e
  exact ⟨fun i => within_of_cmp _ (Host.reduce_andi_all _ _ _ _ _ ek i), fun i => within_of_cmp _ (Host.reduce_andi_all _ _ _ _ _ ev i)⟩

end Cert.Proof.Finite

end
-- ==== Proof.RefChain.lean ====
module

public import proofs.«01_k».proof.Proof.Gen.ReferenceIdeal.Run
public import proofs.«01_k».proof.Proof.Spec
public import Idealize.ShloMosaic.Lib.Pointwise
public import Idealize.ShloMosaic.Lib.Quiescent

@[expose] public section

set_option maxRecDepth 16384

noncomputable section

/-! # The reference's host operations, as functions of its arguments

What the reference computes, as a few functions of the three arguments, and that its results are these. -/

namespace Cert.Proof.ReferenceIdeal

open Cert.ReferenceIdeal Cert.ReferenceIdeal.Gen Idealize.ShloMosaic Idealize.ShloMosaic.TcCoe Idealize.SL.Sem

/-- A row of lanes as heads. -/
def split (k : FVec Ideal S5x2048x512 .bf16) : FVec Ideal S5x2048x4x128 .f32 :=
  shapeCast S5x2048x4x128 (extf .f32 k bitsLt_bf16_f32) shapeCasts_S5x2048x512_S5x2048x4x128

/-- The frequencies. -/
def freqs : FVec Ideal S64 .f32 :=
  Host.divf (broadcastInDim S64 ![] bcast_S_S64 (constant S_ .f32 0x3F800000#32))
    (Host.powf (broadcastInDim S64 ![] bcast_S_S64 (constant S_ .f32 0x461C4000#32))
      (Host.divf
        (addf (broadcastInDim S64 ![] bcast_S_S64 (constant S_ .f32 0x00000000#32))
          (mulf (broadcastInDim S64 ![] bcast_S_S64 (constant S_ .f32 0x40000000#32)) (sitofp .f32 (iotaInDim S64 32 0))))
        (broadcastInDim S64 ![] bcast_S_S64 (constant S_ .f32 0x43000000#32))))

/-- The angles. -/
def angles (p : IVec S5x2048 32) : FVec Ideal S5x2048x64 .f32 :=
  mulf
    (broadcastInDim S5x2048x64 ![0, 1, 2] bcast_S5x2048x1_S5x2048x64_0_1_2
      (broadcastInDim S5x2048x1 ![0, 1] bcast_S5x2048_S5x2048x1_0_1 (sitofp .f32 p)))
    (broadcastInDim S5x2048x64 ![0, 1, 2] bcast_S1x1x64_S5x2048x64_0_1_2
      (broadcastInDim S1x1x64 ![2] bcast_S64_S1x1x64_2 freqs))

/-- One value per pair of lanes, for every head. -/
def perHead (x : FVec Ideal S5x2048x64 .f32) : FVec Ideal S5x2048x4x64 .f32 :=
  broadcastInDim S5x2048x4x64 ![0, 1, 2, 3] bcast_S5x2048x1x64_S5x2048x4x64_0_1_2_3
    (broadcastInDim S5x2048x1x64 ![0, 1, 3] bcast_S5x2048x64_S5x2048x1x64_0_1_3 x)

/-- The first half of a head's lanes. -/
def half0 (x : FVec Ideal S5x2048x4x128 .f32) : FVec Ideal S5x2048x4x64 .f32 :=
  extractStridedSlice S5x2048x4x64 ![0, 0, 0, 0] x slices_S5x2048x4x128_S5x2048x4x64_0_0_0_0

/-- The second half of a head's lanes. -/
def half1 (x : FVec Ideal S5x2048x4x128 .f32) : FVec Ideal S5x2048x4x64 .f32 :=
  extractStridedSlice S5x2048x4x64 ![0, 0, 0, 64] x slices_S5x2048x4x128_S5x2048x4x64_0_0_0_64

/-- The first half of the turned keys. -/
def turned0 (k : FVec Ideal S5x2048x512 .bf16) (p : IVec S5x2048 32) : FVec Ideal S5x2048x4x64 .f32 :=
  subf (mulf (half0 (split k)) (perHead (Host.cos (angles p)))) (mulf (half1 (split k)) (perHead (Host.sin (angles p))))

/-- The second half of the turned keys. -/
def turned1 (k : FVec Ideal S5x2048x512 .bf16) (p : IVec S5x2048 32) : FVec Ideal S5x2048x4x64 .f32 :=
  addf (mulf (half1 (split k)) (perHead (Host.cos (angles p)))) (mulf (half0 (split k)) (perHead (Host.sin (angles p))))

/-- The turned keys. -/
def turned (k : FVec Ideal S5x2048x512 .bf16) (p : IVec S5x2048 32) : FVec Ideal S5x2048x4x128 .f32 :=
  concatenate S5x2048x4x128 3 [⟨S5x2048x4x64, turned0 k p⟩, ⟨S5x2048x4x64, turned1 k p⟩]
    concatenates_S5x2048x4x64_S5x2048x4x64_S5x2048x4x128_d3

/-- The greatest magnitudes, per sequence and head. -/
def amax (x : FVec Ideal S5x2048x4x128 .f32) : FVec Ideal S5x4 .f32 :=
  Host.reduce FloatOps.maximumf (Host.absf x) (constant S_ .f32 0xFF800000#32) reducesTo_S5x2048x4x128_S5x4_d1_3 h_S_

/-- One number everywhere. -/
def every (b : BitVec 32) : FVec Ideal S5x4 .f32 := broadcastInDim S5x4 ![] bcast_S_S5x4 (constant S_ .f32 b)

/-- The exponents. -/
def exponents (a : FVec Ideal S5x4 .f32) : FVec Ideal S5x4 .f32 :=
  select (cmpf .oeq a (every 0x00000000#32)) (every 0x00000000#32)
    (maximumf
      (addf
        (Host.floor (Host.divf (Host.log (mulf a (every 0x3B124925#32)))
          (broadcastInDim S5x4 ![] bcast_S_S5x4 (Host.log (constant S_ .f32 0x40000000#32)))))
        (every 0x3F800000#32))
      (every 0xC2FC0000#32))

/-- The scales. -/
def scales (a : FVec Ideal S5x4 .f32) : FVec Ideal S5x4 .f32 := Host.powf (every 0x40000000#32) (exponents a)

/-- The codes, before their narrowing. -/
def coded (x : FVec Ideal S5x2048x4x128 .f32) (a : FVec Ideal S5x4 .f32) : FVec Ideal S5x2048x4x128 .f32 :=
  minimumf (broadcastInDim S5x2048x4x128 ![] bcast_S_S5x2048x4x128 (constant S_ .f32 0x43E00000#32))
    (maximumf (broadcastInDim S5x2048x4x128 ![] bcast_S_S5x2048x4x128 (constant S_ .f32 0xC3E00000#32))
      (mulf x
        (broadcastInDim S5x2048x4x128 ![0, 1, 2, 3] bcast_S5x1x4x1_S5x2048x4x128_0_1_2_3
          (broadcastInDim S5x1x4x1 ![0, 2] bcast_S5x4_S5x1x4x1_0_2
            (Host.powf (every 0x40000000#32) (Host.negf (exponents a)))))))

variable (m : (ℓ : Loc nD τ sig) → Buf (Elt Ideal) ℓ)

/-- The keys' codes: over extended reals their narrowing changes nothing. -/
theorem keyCodes (c : Dev nD) : Value.res_out0 m c
    = coded (turned (m ((c : Thread nD τ).loc main_arg0)) (m ((c : Thread nD τ).loc main_arg2)))
        (amax (turned (m ((c : Thread nD τ).loc main_arg0)) (m ((c : Thread nD τ).loc main_arg2)))) := by
  unfold Value.res_out0 Value.res_main_v64_0 coded exponents amax every turned
  rfl

/-- The keys' scales. -/
theorem keyScales (c : Dev nD) : Value.res_out1 m c
    = scales (amax (turned (m ((c : Thread nD τ).loc main_arg0)) (m ((c : Thread nD τ).loc main_arg2)))) := by
  unfold Value.res_out1 Value.res_main_v64_1 scales exponents amax every turned
  rfl

/-- Every run of the reference ends with its four results at these functions of its arguments, and leaves its arguments as they
    were and its semaphores, of which it has none, at zero. -/
theorem run (ρ : Dev nD → PrngReg) :
    θ_run (defs (F := Ideal)) (onTc (τ := τ) (main (F := Ideal))) ⟨m, fun _ => 0, ρ⟩ (fun r => (∀ c : Dev nD,
      r.2.mem ((c.tc : Thread nD τ).loc main_v64_0)
        = coded (turned (m ((c : Thread nD τ).loc main_arg0)) (m ((c : Thread nD τ).loc main_arg2)))
            (amax (turned (m ((c : Thread nD τ).loc main_arg0)) (m ((c : Thread nD τ).loc main_arg2))))
      ∧ r.2.mem ((c.tc : Thread nD τ).loc main_v64_1)
        = scales (amax (turned (m ((c : Thread nD τ).loc main_arg0)) (m ((c : Thread nD τ).loc main_arg2))))
      ∧ r.2.mem ((c.tc : Thread nD τ).loc main_v91_0)
        = coded (split (m ((c : Thread nD τ).loc main_arg1))) (amax (split (m ((c : Thread nD τ).loc main_arg1))))
      ∧ r.2.mem ((c.tc : Thread nD τ).loc main_v91_1) = scales (amax (split (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, sem_eq_zero_of_no_sems (by decide) r.2⟩) (Value.run m ρ)
  obtain ⟨h0, h1, h2, h3, ha⟩ := h c
  refine ⟨h0.trans (keyCodes m c), h1.trans (keyScales m c), h2.trans ?_, h3.trans ?_, ha⟩
  · unfold coded exponents amax every split
    rfl
  · unfold scales exponents amax every split
    rfl

end Cert.Proof.ReferenceIdeal

end
-- ==== Proof.RefValue.lean ====
/-
  The reference's values at an index, over extended reals: its turned keys, greatest magnitudes, scales and codes are
  those of `Results.lean`.
-/
module

public import proofs.«01_k».proof.Proof.RefChain
public import proofs.«01_k».proof.Proof.Results
public import Idealize.ShloMosaic.Lib.KernelVsHost

@[expose] public section

set_option maxRecDepth 16384

noncomputable section

namespace Cert.Proof.ReferenceIdeal

open Cert.ReferenceIdeal Cert.ReferenceIdeal.Gen Idealize.ShloMosaic Idealize.ShloMosaic.TcCoe
open Cert.Proof.Spec Cert.Proof.Exponent

/-- An argument's element. -/
def args (x : FVec Ideal S5x2048x512 .bf16) (b : Fin 5) (T : Fin 2048) (l : Fin 512) : EReal := x (ix3 b T l)
/-- A position. -/
def spots (p : IVec S5x2048 32) (b : Fin 5) (T : Fin 2048) : BitVec 32 := p (ix2 b T)

/-- The heads of an argument. -/
theorem split_apply (x : FVec Ideal S5x2048x512 .bf16) (b : Fin 5) (T : Fin 2048) (h : Fin 4) (d : Fin 128) :
    split x (ix4 b T h d) = headsOf (args x) b h T d := by
  pointwise [split]
  exact congrArg (fun l => x (ix3 b T l)) (Fin.ext (by show h.val * 128 + d.val = 128 * h.val + d.val; omega))

/-- A pair's number as a word. -/
theorem pairWord : ∀ j : Fin 64, (BitVec.ofNat 32 j.val).toInt = (j.val : ℤ) := by decide +kernel

/-- The frequencies. -/
theorem freqs_apply (j : Fin 64) : freqs (ix1 j) = freq j := by
  pointwise [freqs]
  have e : (Ideal.ofBits .f32 0x40000000#32 * FloatOps.sitofp (F := Ideal) .f32 (BitVec.ofNat 32 j.val) : EReal) = (((2 * j.val : ℝ) : ℝ) : EReal) := by
    show Ideal.ofBits .f32 0x40000000#32 * (((BitVec.ofNat 32 j.val).toInt : ℝ) : EReal) = _
    rw [pairWord j, ofBits_two, ← EReal.coe_mul]
    norm_cast
  rw [e]
  unfold freq
  rw [ofBits_one]; rfl

/-- The angles. -/
theorem angles_apply (p : IVec S5x2048 32) (b : Fin 5) (T : Fin 2048) (j : Fin 64) :
    angles p (ix3 b T j) = angle (spots p b T) j := by
  pointwise [angles]
  rw [freqs_apply]; rfl

/-- The first half of the turned keys. -/
theorem turned0_apply (x : FVec Ideal S5x2048x512 .bf16) (p : IVec S5x2048 32) (b : Fin 5) (T : Fin 2048) (h : Fin 4) (j : Fin 64) :
    turned0 x p (ix4 b T h j) = rotOf (args x) (spots p) b h T ⟨j.val, by have := j.isLt; omega⟩ := by
  pointwise [turned0, half0, half1, perHead]
  rw [split_apply, split_apply, angles_apply]
  have hj := j.isLt
  have e1 : pair ⟨j.val, by omega⟩ = j := Fin.ext (by show j.val % 64 = j.val; omega)
  have e2 : partner ⟨j.val, by omega⟩ = ⟨64 + j.val, by omega⟩ := Fin.ext (by show (j.val + 64) % 128 = 64 + j.val; omega)
  unfold rotOf rot
  rw [e1, e2, if_pos hj, mul_neg, sub_eq_add_neg]

/-- The second half. -/
theorem turned1_apply (x : FVec Ideal S5x2048x512 .bf16) (p : IVec S5x2048 32) (b : Fin 5) (T : Fin 2048) (h : Fin 4) (j : Fin 64) :
    turned1 x p (ix4 b T h j) = rotOf (args x) (spots p) b h T ⟨64 + j.val, by have := j.isLt; omega⟩ := by
  pointwise [turned1, half0, half1, perHead]
  rw [split_apply, split_apply, angles_apply]
  have hj := j.isLt
  have e1 : pair ⟨64 + j.val, by omega⟩ = j := Fin.ext (by show (64 + j.val) % 64 = j.val; omega)
  have e2 : partner ⟨64 + j.val, by omega⟩ = ⟨j.val, by omega⟩ := Fin.ext (by show (64 + j.val + 64) % 128 = j.val; omega)
  unfold rotOf rot
  rw [e1, e2, if_neg (by show ¬ 64 + j.val < 64; omega)]

/-- The turned keys. -/
theorem turned_apply (x : FVec Ideal S5x2048x512 .bf16) (p : IVec S5x2048 32) (b : Fin 5) (T : Fin 2048) (h : Fin 4) (d : Fin 128) :
    turned x p (ix4 b T h d) = rotOf (args x) (spots p) b h T d := by
  pointwise [turned]
  split
  · rw [turned0_apply]
  · rw [turned1_apply]
    exact congrArg _ (Fin.ext (by show 64 + (d.val - 64) = d.val; omega))

/-- The word of minus infinity. -/
theorem ofBits_bot : Ideal.ofBits .f32 0xFF800000#32 = ⊥ := by simp [Ideal.ofBits, Ideal.ieee]

/-- An element is reduced into sequence `b`'s head `h` when it is of that sequence and head. -/
theorem drop_iff (i : S5x2048x4x128.Idx) (b : Fin 5) (h : Fin 4) :
    reducesTo_S5x2048x4x128_S5x4_d1_3.drop i = ix2 b h ↔ i 0 = b ∧ i 2 = h := by
  have e0 : ((reducesTo_S5x2048x4x128_S5x4_d1_3.drop i) 0 : Nat) = i 0 := Shape.ReducesTo.drop_apply_val _ i 0
  have e1 : ((reducesTo_S5x2048x4x128_S5x4_d1_3.drop i) 1 : Nat) = i 2 := Shape.ReducesTo.drop_apply_val _ i 1
  constructor
  · intro H
    rw [H] at e0 e1
    exact ⟨Fin.ext e0.symm, Fin.ext e1.symm⟩
  · rintro ⟨h0, h2⟩
    funext a
    match a with
    | ⟨0, _⟩ => exact Fin.ext (e0.trans (congrArg Fin.val h0))
    | ⟨1, _⟩ => exact Fin.ext (e1.trans (congrArg Fin.val h2))

/-- The greatest magnitudes. -/
theorem amax_apply (x : FVec Ideal S5x2048x4x128 .f32) (b : Fin 5) (h : Fin 4) :
    amax x (ix2 b h) = greatest (fun T d => x (ix4 b T h d)) := by
  pointwise [amax]
  refine eq_of_forall_ge_iff fun c => ?_
  rw [Finset.fold_max_le, greatest_le, ofBits_bot]
  constructor
  · rintro ⟨-, H⟩ T d
    exact H (ix4 b T h d) (Finset.mem_filter.mpr ⟨Finset.mem_univ _, (drop_iff _ _ _).mpr ⟨rfl, rfl⟩⟩)
  · refine fun H => ⟨bot_le, fun i hi => ?_⟩
    obtain ⟨h0, h2⟩ := (drop_iff i b h).mp (Finset.mem_filter.mp hi).2
    have ei : i = ix4 b (i 1) h (i 3) := by rw [← h0, ← h2]; exact eq_ix4 i
    rw [ei]
    exact H (i 1) (i 3)

/-- The exponents. -/
theorem exponents_apply (a : FVec Ideal S5x4 .f32) (b : Fin 5) (h : Fin 4) :
    exponents a (ix2 b h) = logExponent (a (ix2 b h)) := by
  pointwise [exponents, every]
  unfold logExponent
  rw [ofBits_one, ofBits_zero]
  show _ = Scalar.select (BitVec.ofBool (decide (a (ix2 b h) = ((0 : ℝ) : EReal)))) _ _
  by_cases e : a (ix2 b h) = 0 <;> simp [Scalar.select, e]

/-- The scales. -/
theorem scales_apply (a : FVec Ideal S5x4 .f32) (b : Fin 5) (h : Fin 4) :
    scales a (ix2 b h) = scale (a (ix2 b h)) := by
  pointwise [scales, every]
  rw [exponents_apply]; rfl

/-- The codes. -/
theorem coded_apply (x : FVec Ideal S5x2048x4x128 .f32) (a : FVec Ideal S5x4 .f32) (b : Fin 5) (T : Fin 2048) (h : Fin 4) (d : Fin 128) :
    coded x a (ix4 b T h d) = code (a (ix2 b h)) (x (ix4 b T h d)) := by
  pointwise [coded, every]
  rw [exponents_apply]; rfl

/-- The scales of an array of heads. -/
theorem scales_eq (x : FVec Ideal S5x2048x4x128 .f32) (y : Fin 5 → Fin 4 → Fin 2048 → Fin 128 → EReal)
    (hy : ∀ b T h d, x (ix4 b T h d) = y b h T d) : scales (amax x) = scalesOf y := by
  funext i
  obtain ⟨b, h, rfl⟩ : ∃ (b : Fin 5) (h : Fin 4), i = ix2 b h := ⟨_, _, eq_ix2 i⟩
  rw [scales_apply, amax_apply]
  simp only [hy]
  rfl

/-- Its codes. -/
theorem coded_eq (x : FVec Ideal S5x2048x4x128 .f32) (y : Fin 5 → Fin 4 → Fin 2048 → Fin 128 → EReal)
    (hy : ∀ b T h d, x (ix4 b T h d) = y b h T d) : coded x (amax x) = codesOf y := by
  funext i
  obtain ⟨b, T, h, d, rfl⟩ : ∃ (b : Fin 5) (T : Fin 2048) (h : Fin 4) (d : Fin 128), i = ix4 b T h d := ⟨_, _, _, _, eq_ix4 i⟩
  rw [coded_apply, amax_apply]
  simp only [hy]
  rfl

end Cert.Proof.ReferenceIdeal

end
-- ==== Proof.Algebraic.lean ====
/-
  The two programs leave the same four results: each is the function of `Results.lean` of the arguments.
-/
module

public import proofs.«01_k».proof.Proof.Finite
public import proofs.«01_k».proof.Proof.RefValue

@[expose] public section

set_option maxRecDepth 16384

noncomputable section

namespace Cert.Proof

open Idealize.ShloMosaic Idealize.ShloMosaic.TcCoe Idealize.SL.Sem Cert.Proof.Spec

namespace KernelIdeal

open Cert.KernelIdeal Cert.KernelIdeal.Gen

variable (m : (ℓ : Loc nD τ sig) → Buf (Elt Ideal) ℓ) (ρ : Dev nD → PrngReg) (M : ℝ)

/-- After a run on keys and values within `M`, the kernel's results are the codes and scales of the rotated keys and of the
    values, and its arguments are as launched. -/
theorem results (hM : M + M < 2 ^ 130) (hM' : M < 2 ^ 130)
    (hk : ∀ c b T l, Within M (keys m c b T l)) (hv : ∀ c b T l, Within M (vals m c b T l)) :
    θ_run (defs (F := Ideal)) (onTc (τ := τ) (main (F := Ideal))) ⟨m, fun _ => 0, ρ⟩ (fun r => ∀ c : Dev nD,
      r.2.mem ((c.tc : Thread nD τ).loc main_v0_0) = codesOf (rotOf (keys m c) (poss m c))
      ∧ r.2.mem ((c.tc : Thread nD τ).loc main_v2) = scalesOf (rotOf (keys m c) (poss m c))
      ∧ r.2.mem ((c.tc : Thread nD τ).loc main_v0_2) = codesOf (headsOf (vals m c))
      ∧ r.2.mem ((c.tc : Thread nD τ).loc main_v4) = scalesOf (headsOf (vals m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (frame m ρ))
  obtain ⟨h, hf, -⟩ := h
  refine ⟨((h c).1 3).trans (final3 m M c (hk c) hM), ?_, ((h c).1 5).trans (final5 m M c (hv c) hM'), ?_, hf c⟩
  · refine ((h c).2 main_v2 (Pipeline.mem_restRefs_of main_v2 (by decide) (by decide))).trans ((tail2 m c).trans ?_)
    rw [final4 m M c (hk c) hM]
    exact narrow _
  · refine ((h c).2 main_v4 (Pipeline.mem_restRefs_of main_v4 (by decide) (by decide))).trans ((tail4 m c).trans ?_)
    rw [final6 m M c (hv c) hM']
    exact narrow _

end KernelIdeal

namespace ReferenceIdeal

open Cert.ReferenceIdeal Cert.ReferenceIdeal.Gen

variable (m : (ℓ : Loc nD τ sig) → Buf (Elt Ideal) ℓ) (ρ : Dev nD → PrngReg)

/-- The keys as launched. -/
def keys (c : Dev nD) : Fin 5 → Fin 2048 → Fin 512 → EReal := args (m ((c : Thread nD τ).loc main_arg0))
/-- The values as launched. -/
def vals (c : Dev nD) : Fin 5 → Fin 2048 → Fin 512 → EReal := args (m ((c : Thread nD τ).loc main_arg1))
/-- The positions as launched. -/
def poss (c : Dev nD) : Fin 5 → Fin 2048 → BitVec 32 := spots (m ((c : Thread nD τ).loc main_arg2))

/-- After a run, the reference's results are the codes and scales of the rotated keys and of the values, and its arguments are
    as launched. -/
theorem results :
    θ_run (defs (F := Ideal)) (onTc (τ := τ) (main (F := Ideal))) ⟨m, fun _ => 0, ρ⟩ (fun r => ∀ c : Dev nD,
      r.2.mem ((c.tc : Thread nD τ).loc main_v64_0) = codesOf (rotOf (keys m c) (poss m c))
      ∧ r.2.mem ((c.tc : Thread nD τ).loc main_v64_1) = scalesOf (rotOf (keys m c) (poss m c))
      ∧ r.2.mem ((c.tc : Thread nD τ).loc main_v91_0) = codesOf (headsOf (vals m c))
      ∧ r.2.mem ((c.tc : Thread nD τ).loc main_v91_1) = scalesOf (headsOf (vals m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  obtain ⟨h0, h1, h2, h3, ha⟩ := h.1 c
  exact ⟨h0.trans (coded_eq _ _ (turned_apply _ _)), h1.trans (scales_eq _ _ (turned_apply _ _)),
    h2.trans (coded_eq _ _ (split_apply _)), h3.trans (scales_eq _ _ (split_apply _)), ha⟩

end ReferenceIdeal

/-- On finite keys and values, from the same arguments, the kernel and the reference read at extended reals leave the same
    codes and the same scales, and their arguments as they were. -/
theorem algebraic [Cert.Pre_finite.Facts] : Cert.algebraic_KernelIdeal_ReferenceIdeal_pre_finite := by
  intro m g m' g' hpre hargs
  have hb := fun c => Finite.bounds _ _ _ (hpre c)
  have ek : ∀ c, ReferenceIdeal.keys m' c = KernelIdeal.keys m c := fun c => congrArg ReferenceIdeal.args (hargs c).1
  have ev : ∀ c, ReferenceIdeal.vals m' c = KernelIdeal.vals m c := fun c => congrArg ReferenceIdeal.args (hargs c).2.1
  have ep : ∀ c, ReferenceIdeal.poss m' c = KernelIdeal.poss m c := fun c => congrArg ReferenceIdeal.spots (hargs c).2.2
  refine ⟨fun c => codesOf (rotOf (KernelIdeal.keys m c) (KernelIdeal.poss m c)),
    fun c => scalesOf (rotOf (KernelIdeal.keys m c) (KernelIdeal.poss m c)),
    fun c => codesOf (headsOf (KernelIdeal.vals m c)), fun c => scalesOf (headsOf (KernelIdeal.vals m c)),
    KernelIdeal.results m g Finite.top Finite.top_twice Finite.top_once (fun c b T l => (hb c).1 _) (fun c b T l => (hb c).2 _), ?_⟩
  refine (θ_run _ _ _).mono (fun r h c => ?_) (ReferenceIdeal.results m' g')
  have h := h c
  rw [ek, ev, ep] at h
  exact h

end Cert.Proof

end
-- ==== Proof.lean ====
/-
# The rotary FP8 kernel: the claim, assembled

`Proof/Loop*`, `Proof/Content*`, `Proof/Body*` and `Proof/Run*` follow one run of the kernel, once for
the program as it is (`Kernel`) and once for its reading at extended reals (`KernelIdeal`).

`Proof/Results.lean` states the four results as functions of the arguments, over `Proof/Spec.lean` (the rotation, the greatest
absolute value, a scale, a code) and `Proof/Exponent.lean` (the two ways of finding an exponent agree).
`Proof/Tiles.lean`, `Proof/Greatest.lean`, `Proof/Scales.lean` and `Proof/Arrays.lean` show that the kernel leaves them;
`Proof/RefChain.lean` and `Proof/RefValue.lean` that the reference does.
`Proof/Finite.lean` reads the precondition, and `Proof/Algebraic.lean` puts the two sides together.
-/
module

public import proofs.«01_k».proof.Defs
public import proofs.«01_k».proof.Proof.RunKernel
public import proofs.«01_k».proof.Proof.RunKernelIdeal
public import proofs.«01_k».proof.Proof.Gen.ReferenceIdeal
public import proofs.«01_k».proof.Proof.Algebraic

@[expose] public section

noncomputable section

namespace Cert.Proof

open Idealize.ShloMosaic Idealize.SL.Sem Cert.Kernel

/-- Every run of the kernel ends, leaves its arguments as they were and its semaphores at zero. -/
theorem frame_Kernel : quiescent_Kernel := fun m g _ => Cert.Proof.Kernel.frame m g

/-- The same of the kernel read at extended reals. -/
theorem frame_KernelIdeal : quiescent_KernelIdeal := fun m g _ => Cert.Proof.KernelIdeal.frame m g

/-- The same of the reference read at extended reals. -/
theorem frame_ReferenceIdeal : quiescent_ReferenceIdeal := fun m g _ =>
  (θ_run _ _ _).mono (fun _ h => ⟨fun c => (h.1 c).2.2.2.2, h.2⟩) (Cert.Proof.ReferenceIdeal.run m g)

/-- The kernel's frame again, under the precondition of the value claim. -/
theorem frame_KernelIdeal_finite [Cert.Pre_finite.Facts] : quiescent_KernelIdeal_pre_finite := fun m g _ => Cert.Proof.KernelIdeal.frame m g

/-- The reference's frame again, under the precondition of the value claim. -/
theorem frame_ReferenceIdeal_finite [Cert.Pre_finite.Facts] : quiescent_ReferenceIdeal_pre_finite := fun m g _ =>
  frame_ReferenceIdeal m g trivial

/-- The claim. -/
theorem claim : Cert.Claim :=
  have := Finite.facts
  ⟨Cert.Kernel.Gen.facts, Cert.KernelIdeal.Gen.facts, Cert.ReferenceIdeal.Gen.facts, Finite.facts,
    frame_Kernel, frame_KernelIdeal, frame_KernelIdeal_finite, frame_ReferenceIdeal, frame_ReferenceIdeal_finite, trivial, algebraic⟩

end Cert.Proof

end
